-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 8192]⟩ 1 8 c (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v13) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_ReferenceIdeal_on_untied (hKernelIdeal := hKernelIdeal) (hReferenceIdeal := hReferenceIdeal) (hOn_untied := hOn_untied)
    ∧ algebraic_KernelIdeal_DistinctIdeal (hKernelIdeal := hKernelIdeal) (hDistinctIdeal := hDistinctIdeal)
-- ==== On_untied.lean ====
abbrev S256x8192 : Shape := ⟨2, ![256, 8192]⟩
abbrev S256x8 : Shape := ⟨2, ![256, 8]⟩
abbrev S256x7 : Shape := ⟨2, ![256, 7]⟩
abbrev S256x1x7 : Shape := ⟨3, ![256, 1, 7]⟩
abbrev S7 : Shape := ⟨1, ![7]⟩
abbrev S1x1x7 : Shape := ⟨3, ![1, 1, 7]⟩
abbrev S8 : Shape := ⟨1, ![8]⟩
abbrev S1x8x1 : Shape := ⟨3, ![1, 8, 1]⟩
abbrev S1x8x7 : Shape := ⟨3, ![1, 8, 7]⟩
abbrev S256x8x7 : Shape := ⟨3, ![256, 8, 7]⟩
abbrev S_ : Shape := ⟨0, ![]⟩

class Facts : Prop where
  slices_S256x8192_S256x8_0_0 : S256x8192.Slices ![0, 0] S256x8
  slices_S256x8_S256x7_0_0 : S256x8.Slices ![0, 0] S256x7
  bcast_S256x7_S256x1x7_0_2 : S256x7.BroadcastsInDim S256x1x7 (![0, 2] : Fin 2 → Fin S256x1x7.rank)
  slices_S256x8_S256x7_0_1 : S256x8.Slices ![0, 1] S256x7
  bcast_S7_S1x1x7_2 : S7.BroadcastsInDim S1x1x7 (![2] : Fin 1 → Fin S1x1x7.rank)
  bcast_S8_S1x8x1_1 : S8.BroadcastsInDim S1x8x1 (![1] : Fin 1 → Fin S1x8x1.rank)
  bcast_S1x1x7_S1x8x7_0_1_2 : S1x1x7.BroadcastsInDim S1x8x7 (![0, 1, 2] : Fin 3 → Fin S1x8x7.rank)
  bcast_S1x8x1_S1x8x7_0_1_2 : S1x8x1.BroadcastsInDim S1x8x7 (![0, 1, 2] : Fin 3 → Fin S1x8x7.rank)
  bcast_S256x1x7_S256x8x7_0_1_2 : S256x1x7.BroadcastsInDim S256x8x7 (![0, 1, 2] : Fin 3 → Fin S256x8x7.rank)
  bcast_S1x8x7_S256x8x7_0_1_2 : S1x8x7.BroadcastsInDim S256x8x7 (![0, 1, 2] : Fin 3 → Fin S256x8x7.rank)
  reducesTo_S256x8x7_S256x8_d2 : S256x8x7.ReducesTo [2] S256x8
  h_S_ : 0 < S_.numel
  bcast_S_S256x8 : S_.BroadcastsInDim S256x8 (![] : Fin 0 → Fin S256x8.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x8192 .f32) : FVec F S256x8192 .f32 :=
  let v0 : FVec F S256x8192 .f32 := (fun x => Host.sort S256x8192 1 comparator_f32_d1 x) arg0
  v0

def fn_part1 {F : FTy → Type} [FloatOps F] (main_v19 : IVec S256x8 1) (main_v21 : IVec S256x8 1) : IVec S256x8 1 :=
  let main_v22 : IVec S256x8 1 := ori main_v19 main_v21
  main_v22

def fn {F : FTy → Type} [FloatOps F] (main_arg0 : FVec F S256x8192 .f32) : IVec S256x8 1 :=
  let main_v0 : FVec F S256x8192 .f32 := Host.negf main_arg0
  let main_v1 : FVec F S256x8192 .f32 := fn_sort (F := F) main_v0
  let main_v2 : FVec F S256x8 .f32 := (extractStridedSlice S256x8 ![0, 0] · slices_S256x8192_S256x8_0_0) main_v1
  let main_v3 : FVec F S256x8 .f32 := Host.negf main_v2
  let main_v4 : FVec F S256x7 .f32 := (extractStridedSlice S256x7 ![0, 0] · slices_S256x8_S256x7_0_0) main_v3
  let main_v5 : FVec F S256x1x7 .f32 := broadcastInDim S256x1x7 ![0, 2] bcast_S256x7_S256x1x7_0_2 main_v4
  let main_v6 : FVec F S256x7 .f32 := (extractStridedSlice S256x7 ![0, 1] · slices_S256x8_S256x7_0_1) main_v3
  let main_v7 : FVec F S256x1x7 .f32 := broadcastInDim S256x1x7 ![0, 2] bcast_S256x7_S256x1x7_0_2 main_v6
  let main_v8 : IVec S256x1x7 1 := cmpf .ogt main_v5 main_v7
  let main_v9 : IVec S7 32 := iotaInDim S7 32 0
  let main_v10 : IVec S1x1x7 32 := broadcastInDim S1x1x7 ![2] bcast_S7_S1x1x7_2 main_v9
  let main_v11 : IVec S8 32 := iotaInDim S8 32 0
  let main_v12 : IVec S1x8x1 32 := broadcastInDim S1x8x1 ![1] bcast_S8_S1x8x1_1 main_v11
  let main_v13 : IVec S1x8x7 32 := broadcastInDim S1x8x7 ![0, 1, 2] bcast_S1x1x7_S1x8x7_0_1_2 main_v10
  let main_v14 : IVec S1x8x7 32 := broadcastInDim S1x8x7 ![0, 1, 2] bcast_S1x8x1_S1x8x7_0_1_2 main_v12
  let main_v15 : IVec S1x8x7 1 := cmpi .sge main_v13 main_v14
  let main_v16 : IVec S256x8x7 1 := broadcastInDim S256x8x7 ![0, 1, 2] bcast_S256x1x7_S256x8x7_0_1_2 main_v8
  let main_v17 : IVec S256x8x7 1 := broadcastInDim S256x8x7 ![0, 1, 2] bcast_S1x8x7_S256x8x7_0_1_2 main_v15
  let main_v18 : IVec S256x8x7 1 := ori main_v16 main_v17
  let main_c : IVec S_ 1 := constantI S_ 1 1#1
  let main_v19 : IVec S256x8 1 := (fun x v => Host.reduce IntOp.andi x v reducesTo_S256x8x7_S256x8_d2 h_S_) main_v18 main_c
  let main_cst : FVec F S_ .f32 := constant S_ .f32 0xFF800000#32
  let main_v20 : FVec F S256x8 .f32 := broadcastInDim S256x8 ![] bcast_S_S256x8 main_cst
  let main_v21 : IVec S256x8 1 := cmpf .oeq main_v3 main_v20
  fn_part1 (F := F) main_v19 main_v21
-- ==== Kernel.lean ====
abbrev S256x1024 : Shape := ⟨2, ![256, 1024]⟩
abbrev S256x8 : Shape := ⟨2, ![256, 8]⟩
abbrev S8x256x8 : Shape := ⟨3, ![8, 256, 8]⟩
abbrev S7 : Shape := ⟨1, ![7]⟩
abbrev S6 : Shape := ⟨1, ![6]⟩
abbrev S_ : Shape := ⟨0, ![]⟩
abbrev S1 : Shape := ⟨1, ![1]⟩
abbrev S256 : Shape := ⟨1, ![256]⟩
abbrev S256x1 : Shape := ⟨2, ![256, 1]⟩
abbrev S1x256x8 : Shape := ⟨3, ![1, 256, 8]⟩
abbrev S6x256x8 : Shape := ⟨3, ![6, 256, 8]⟩
abbrev S1x256x1 : Shape := ⟨3, ![1, 256, 1]⟩
abbrev S256x24 : Shape := ⟨2, ![256, 24]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x8, .f32⟩
  | .local _ .vmem, ⟨1, _⟩ => ⟨S256x1024, .f32⟩
  | .local _ .vmem, ⟨2, _⟩ => ⟨S8x256x8, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 7 16 bufScoped semScoped dmaSemScoped tileCredit tileCredit_eq_zero tileCredit_pos).withBarriers [(0, 6)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 6

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_5 : BitVec 32 := 1#32
  let v10 : BitVec 32 := Scalar.muli v7 c1_i32_5
  let v11 : BitVec 32 := Scalar.addi c0_i32_6 v10
  v11.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_9 : BitVec 32 := 1#32
  let v15 : BitVec 32 := Scalar.muli v12 c1_i32_9
  let v16 : BitVec 32 := Scalar.addi c0_i32_10 v15
  v16.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_13 : BitVec 32 := 1#32
  let v20 : BitVec 32 := Scalar.muli v17 c1_i32_13
  let v21 : BitVec 32 := Scalar.addi c0_i32_14 v20
  v21.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v22 : BitVec 32 := Scalar.xori v2 c5_i32
  let c1_i32_17 : BitVec 32 := 1#32
  let v25 : BitVec 32 := Scalar.muli v22 c1_i32_17
  let v26 : BitVec 32 := Scalar.addi c0_i32_18 v25
  v26.toNat
def k0_dev6 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.xori v2 c6_i32
  let c1_i32_21 : BitVec 32 := 1#32
  let v30 : BitVec 32 := Scalar.muli v27 c1_i32_21
  let v31 : BitVec 32 := Scalar.addi c0_i32_22 v30
  v31.toNat
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.xori v2 c7_i32
  let c1_i32_25 : BitVec 32 := 1#32
  let v35 : BitVec 32 := Scalar.muli v32 c1_i32_25
  let v36 : BitVec 32 := Scalar.addi c0_i32_26 v35
  v36.toNat
def k0_dev8 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v94 : BitVec 32 := Scalar.xori v2 c1_i32_46
  let c1_i32_51 : BitVec 32 := 1#32
  let v95 : BitVec 32 := Scalar.muli v94 c1_i32_51
  let v96 : BitVec 32 := Scalar.addi c0_i32_52 v95
  v96.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v107 : BitVec 32 := Scalar.xori v2 c3_i32_60
  let c1_i32_65 : BitVec 32 := 1#32
  let v108 : BitVec 32 := Scalar.muli v107 c1_i32_65
  let v109 : BitVec 32 := Scalar.addi c0_i32_66 v108
  v109.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v120 : BitVec 32 := Scalar.xori v2 c4_i32_74
  let c1_i32_79 : BitVec 32 := 1#32
  let v121 : BitVec 32 := Scalar.muli v120 c1_i32_79
  let v122 : BitVec 32 := Scalar.addi c0_i32_80 v121
  v122.toNat
def k0_dev11 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v133 : BitVec 32 := Scalar.xori v2 c2_i32_88
  let c1_i32_93 : BitVec 32 := 1#32
  let v134 : BitVec 32 := Scalar.muli v133 c1_i32_93
  let v135 : BitVec 32 := Scalar.addi c0_i32_94 v134
  v135.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_102 : BitVec 32 := 5#32
  let v146 : BitVec 32 := Scalar.xori v2 c5_i32_102
  let c1_i32_107 : BitVec 32 := 1#32
  let v147 : BitVec 32 := Scalar.muli v146 c1_i32_107
  let v148 : BitVec 32 := Scalar.addi c0_i32_108 v147
  v148.toNat
def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v159 : BitVec 32 := Scalar.xori v2 c7_i32_116
  let c1_i32_121 : BitVec 32 := 1#32
  let v160 : BitVec 32 := Scalar.muli v159 c1_i32_121
  let v161 : BitVec 32 := Scalar.addi c0_i32_122 v160
  v161.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_130 : BitVec 32 := 6#32
  let v172 : BitVec 32 := Scalar.xori v2 c6_i32_130
  let c1_i32_135 : BitVec 32 := 1#32
  let v173 : BitVec 32 := Scalar.muli v172 c1_i32_135
  let v174 : BitVec 32 := Scalar.addi c0_i32_136 v173
  v174.toNat
abbrev stage0_0 : Fin 1 → Memref sig .tc .vmem S256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x8192 : Shape := ⟨2, ![256, 8192]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S256x8192, .i32⟩
  | .hbm, ⟨3, _⟩ => ⟨S256x8192, .f32⟩
  | .hbm, ⟨4, _⟩ => ⟨S256x8192, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== DistinctIdeal.lean ====
abbrev S256x8192 : Shape := ⟨2, ![256, 8192]⟩
abbrev S256x8191 : Shape := ⟨2, ![256, 8191]⟩
abbrev S_ : Shape := ⟨0, ![]⟩
abbrev S256x1 : Shape := ⟨2, ![256, 1]⟩
abbrev S256x8 : Shape := ⟨2, ![256, 8]⟩

abbrev nBuf : Space → Nat
  | .hbm => 18
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S256x8191, .f32⟩
  | .hbm, ⟨5, _⟩ => ⟨S256x8191, .f32⟩
  | .hbm, ⟨6, _⟩ => ⟨S256x8191, .i1⟩
  | .hbm, ⟨7, _⟩ => ⟨S256x8191, .f32⟩
  | .hbm, ⟨8, _⟩ => ⟨S_, .f32⟩
  | .hbm, ⟨9, _⟩ => ⟨S_, .f32⟩
  | .hbm, ⟨10, _⟩ => ⟨S256x8191, .f32⟩
  | .hbm, ⟨11, _⟩ => ⟨S256x8191, .f32⟩
  | .hbm, ⟨12, _⟩ => ⟨S256x1, .f32⟩
  | .hbm, ⟨13, _⟩ => ⟨S256x8192, .f32⟩
  | .hbm, ⟨14, _⟩ => ⟨S256x8192, .f32⟩
  | .hbm, ⟨15, _⟩ => ⟨S256x8192, .f32⟩
  | .hbm, ⟨16, _⟩ => ⟨S256x8, .f32⟩
  | .hbm, ⟨17, _⟩ => ⟨S256x8, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Protocol.lean ====
/-
  The protocol of the all-gather, at a symbolic device.

  Device `c` and offset `j : Fin 7` name the PEER `xo c j = c XOR (j + 1)`; the map is an involution in `c`. Every
  device has, for each `j`, three cells:

  * READY `j` (a regular semaphore; the barrier for `j = 0`, a credit for `j ≥ 1`): signalled once, by the peer, one
    unit; the signal hands over the peer's slot `j + 1` of the gather buffer, at whatever it holds;
  * SEND `j` (DMA): credited when this device's copy to the peer has been read; hands back the share of slot 0;
  * RECEIVE `j` (DMA): credited when the peer's copy has landed; hands over this device's slot `j + 1`, holding the
    peer's candidates.

  One more cell, COPY (DMA), for the local copy of the argument into VMEM.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One copy of the rounds algebra over the machine's cells. -/
abbrev UR : Type := URounds (GSem nD τ sig) Unit
/-- The pipeline's copy and the gather's, side by side. -/
abbrev UU : Type := UR × UR

local notation "𝕄" => MT nD τ sig Unit (Elt F) ℕ UU ℕ

/-- The pipeline's copy inside the machine's algebra, -/
abbrev EP : Emb UR (MT nD τ sig Unit (Elt F) ℕ UU ℕ) := embL
/-- and the gather's. -/
abbrev ER : Emb UR (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Peers -/

set_option backward.proofsInPublic true in
/-- The device `o` positions away in the exclusive-or order. -/
def at8 (c : Dev nD) (o : Fin 8) : Dev nD := ⟨c.val ^^^ o.val, Nat.xor_lt_two_pow (n := 3) c.isLt o.isLt⟩

/-- The peer at offset `j + 1`. -/
abbrev xo (c : Dev nD) (j : Fin 7) : Dev nD := at8 c j.succ

theorem at8_at8 (c : Dev nD) (o : Fin 8) : at8 (at8 c o) o = c := by revert c o; decide
theorem at8_zero (c : Dev nD) : at8 c 0 = c := by revert c; decide
theorem xo_xo (c : Dev nD) (j : Fin 7) : xo (xo c j) j = c := at8_at8 c j.succ

/-- Exchanging with the peer at offset `j + 1`, as a permutation of the devices. -/
def swapAt (j : Fin 7) : Dev nD ≃ Dev nD := ⟨fun c => xo c j, fun c => xo c j, fun c => xo_xo c j, fun c => xo_xo c j⟩

/-! ## Semaphores and cells -/

set_option backward.proofsInPublic true in
/-- The ready semaphore of offset `j + 1`: the barrier (semaphore 6) for `j = 0`, credit `j - 1` otherwise. -/
def rdySem (j : Fin 7) : Sem sig := ⟨(j.val + 6) % 7, Nat.mod_lt _ (by decide)⟩
set_option backward.proofsInPublic true in
/-- The send semaphore of offset `j + 1`. -/
def sndSem (j : Fin 7) : DmaSem sig := ⟨1 + j.val, by have := j.isLt; show 1 + j.val < 16; omega⟩
set_option backward.proofsInPublic true in
/-- The receive semaphore of offset `j + 1`. -/
def rcvSem (j : Fin 7) : DmaSem sig := ⟨8 + j.val, by have := j.isLt; show 8 + j.val < 16; omega⟩
/-- The semaphore of the local copy. -/
def cpySem : DmaSem sig := ⟨15, by decide⟩

abbrev rdyCell (c : Dev nD) (j : Fin 7) : GSem nD τ sig := ((c : Thread nD τ), .reg (rdySem j))
abbrev sndCell (c : Dev nD) (j : Fin 7) : GSem nD τ sig := ((c : Thread nD τ), .dma (sndSem j))
abbrev rcvCell (c : Dev nD) (j : Fin 7) : GSem nD τ sig := ((c : Thread nD τ), .dma (rcvSem j))
abbrev cpyCell (c : Dev nD) : GSem nD τ sig := ((c : Thread nD τ), .dma cpySem)

set_option backward.proofsInPublic true in
/-- A device's 22 cells in one list: ready 0..6, send 7..13, receive 14..20, copy 21. -/
def semOf (k : Fin 22) : SemLoc sig :=
  if h : k.val < 7 then .reg (rdySem ⟨k.val, h⟩) else .dma ⟨k.val - 6, by have := k.isLt; show k.val - 6 < 16; omega⟩

abbrev kcell (ck : Dev nD × Fin 22) : GSem nD τ sig := ((ck.1 : Thread nD τ), semOf ck.2)

set_option backward.proofsInPublic true in
/-- Where each cell stands in that list. -/
def iRdy (j : Fin 7) : Fin 22 := ⟨j.val, by have := j.isLt; omega⟩
set_option backward.proofsInPublic true in
@[inherit_doc iRdy] def iSnd (j : Fin 7) : Fin 22 := ⟨7 + j.val, by have := j.isLt; omega⟩
set_option backward.proofsInPublic true in
@[inherit_doc iRdy] def iRcv (j : Fin 7) : Fin 22 := ⟨14 + j.val, by have := j.isLt; omega⟩
@[inherit_doc iRdy] def iCpy : Fin 22 := ⟨21, by decide⟩

theorem semOf_rdy (j : Fin 7) : semOf (iRdy j) = .reg (rdySem j) := by revert j; decide
theorem semOf_snd (j : Fin 7) : semOf (iSnd j) = .dma (sndSem j) := by revert j; decide
theorem semOf_rcv (j : Fin 7) : semOf (iRcv j) = .dma (rcvSem j) := by revert j; decide
theorem semOf_cpy : semOf iCpy = .dma cpySem := by decide
theorem semOf_injective : Function.Injective semOf := by decide

/-! ## The gather buffer: slots and contents -/

/-- Slot `o` of the gather buffer. -/
def slotSet (o : Fin 8) : Finset S8x256x8.Idx := Finset.univ.filter fun i => (i 0).val = o.val

theorem mem_slotSet {o : Fin 8} {i : S8x256x8.Idx} : i ∈ slotSet o ↔ (i 0).val = o.val := by simp [slotSet]

theorem slotSet_disjoint {o o' : Fin 8} (h : o ≠ o') : Disjoint (slotSet o) (slotSet o') :=
  Finset.disjoint_left.mpr fun i hi hi' => h (Fin.ext ((mem_slotSet.mp hi).symm.trans (mem_slotSet.mp hi')))

/-- The device's block of the argument. -/
def xblk (c : Dev nD) : S256x1024.Idx → Elt F .f32 := (s₀ m ρ).mem ((c : Thread nD τ).loc main_arg0)

/-- The eight candidates a device takes from a block: what the kernel's own pure operations make of it. -/
def cand (x : Vec F S256x1024 .f32) : FVec F S1x256x8 .bf16 :=
  k0_pay10 (k0_pay2 x) (k0_pay4 x) (k0_pay6 x) (k0_pay7 x) (k0_pay8 x) (k0_pay9 x) (Scalar.ofBits .f32 0xFF800000#32)

/-- An index into one slot, from an index into the gather buffer. -/
def inSlot (i : S8x256x8.Idx) : S1x256x8.Idx := fun | 0 => (0 : Fin 1) | 1 => i 1 | 2 => i 2

/-- What device `c`'s gather buffer holds in the end: in slot `o` the candidates of the device `o` positions away. -/
def gathered (c : Dev nD) : S8x256x8.Idx → Elt F .bf16 := fun i => cand (xblk m ρ (at8 c (i 0))) (inSlot i)

/-- Slot `o` of device `c`'s gather buffer, at share `q`, holding `f` there. -/
def slotPts (c : Dev nD) (o : Fin 8) (q : PosShare TreeShare) (f : S8x256x8.Idx → Elt F .bf16) : sProp 𝕄 :=
  ((c : Thread nD τ).loc cc0_scratch1) ↦[slotSet o]{q} (f : Buf (Elt F) ((c : Thread nD τ).loc cc0_scratch1))

/-- The scratch the argument is copied to, and the argument itself. -/
def locPts (c : Dev nD) (f : S256x1024.Idx → Elt F .f32) : sProp 𝕄 :=
  ((c : Thread nD τ).loc cc0_scratch0) ↦{fullShare} (f : Buf (Elt F) ((c : Thread nD τ).loc cc0_scratch0))
@[inherit_doc locPts]
def argPts (c : Dev nD) : sProp 𝕄 := ((c : Thread nD τ).loc main_arg0) ↦{fullShare} (s₀ m ρ).mem ((c : Thread nD τ).loc main_arg0)

instance slotPts_storable (c : Dev nD) (o) (q) (f) : BI.Storable (upEmb : UEmb _ 𝕄) (slotPts (F := F) c o q f) := by unfold slotPts; infer_instance
instance locPts_storable (c : Dev nD) (f) : BI.Storable (upEmb : UEmb _ 𝕄) (locPts (F := F) c f) := by unfold locPts; infer_instance
instance argPts_storable (c : Dev nD) : BI.Storable (upEmb : UEmb _ 𝕄) (argPts (F := F) m ρ c) := by unfold argPts; infer_instance

/-! ## What each cell's units hand over -/

/-- A copy of one slot credits this much, -/
def N : ℕ := ((Memref.whole cc0_scratch1 : Memref sig .tc .vmem S8x256x8 .bf16).slice (Rect.unit (s := S8x256x8) ![0, 0, 0] S1x256x8.size inb_S8x256x8_S1x256x8_0_0_0) (fun _ => rfl)
  |>.squeeze S256x8 squeezes_S1x256x8_S256x8).view.dmaCredit
/-- and the local copy this much. -/
def Nc : ℕ := (Memref.whole cc0_scratch0 : Memref sig .tc .vmem S256x1024 .f32).view.dmaCredit
theorem N_pos : 0 < N := View.dmaCredit_pos _ (by decide)
theorem Nc_pos : 0 < Nc := View.dmaCredit_pos _ (by decide)

/-- The share of slot 0 that copy `j` reads. -/
abbrev tok (j : Fin 7) : PosShare TreeShare := Transfers.shareTok fullShare 7 j
/-- What is left of slot 0 when the seven copies have theirs. -/
abbrev kept : PosShare TreeShare := Transfers.shareDrop fullShare 7

def rdyPay (c : Dev nD) (j : Fin 7) : sProp 𝕄 := iprop(∃ f, slotPts (xo c j) j.succ fullShare f)
def sndPay (c : Dev nD) (j : Fin 7) : sProp 𝕄 := slotPts c 0 (tok j) (gathered m ρ c)
def rcvPay (c : Dev nD) (j : Fin 7) : sProp 𝕄 := slotPts c j.succ fullShare (gathered m ρ c)
def cpyPay (c : Dev nD) : sProp 𝕄 := iprop(locPts c (xblk m ρ c) ∗ argPts m ρ c)

/-- Which offset a DMA semaphore or a regular one serves. -/
def payOf (c : Dev nD) : SemLoc sig → sProp 𝕄
  | .reg s => rdyPay c ⟨(s.val + 1) % 7, Nat.mod_lt _ (by decide)⟩
  | .dma s =>
    if h : s.val < 8 then sndPay m ρ c ⟨s.val - 1, by omega⟩
    else if h' : s.val < 15 then rcvPay m ρ c ⟨s.val - 8, by omega⟩
    else cpyPay m ρ c

instance payOf_storable (c : Dev nD) (sm : SemLoc sig) : BI.Storable (upEmb : UEmb _ 𝕄) (payOf (F := F) m ρ c sm) := by
  unfold payOf rdyPay sndPay rcvPay cpyPay
  cases sm <;> dsimp only
  · infer_instance
  · split
    · infer_instance
    · split <;> infer_instance

/-- How many units make the round of a cell. -/
def amtOf : SemLoc sig → ℕ
  | .reg _ => 1
  | .dma s => if s.val < 15 then N else Nc

/-- The schedule: one round of one duty at each cell of a device. -/
def sched : Rounds.Schedule (GSem nD τ sig) Unit 𝕄 where
  duties g r := if r = 0 ∧ g.1.2 = .tc then {()} else ∅
  unitless _ := False
  amount g _ _ := amtOf g.2
  payload g _ _ := payOf m ρ g.1.1 g.2
  amount_pos g _ _ _ := by
    unfold amtOf
    split
    · exact Nat.one_pos
    · split
      · exact N_pos
      · exact Nc_pos

instance sched_payload_storable (g : GSem nD τ sig) (r : ℕ) (d : Unit) : BI.Storable (upEmb : UEmb _ 𝕄) ((sched (F := F) m ρ).payload g r d) := by
  show BI.Storable upEmb (payOf m ρ g.1.1 g.2); infer_instance

section Sched
variable (c : Dev nD) (j : Fin 7) (sm : SemLoc sig)

theorem duties_at : (sched (F := F) m ρ).duties ((c : Thread nD τ), sm) 0 = {()} := by dsimp only [sched]; exact if_pos ⟨rfl, rfl⟩
theorem duties_later (g : GSem nD τ sig) : ∀ r, 1 ≤ r → (sched (F := F) m ρ).duties g r = ∅ :=
  fun r hr => by dsimp only [sched]; exact if_neg fun h => by omega
theorem expect_at : (sched (F := F) m ρ).expect ((c : Thread nD τ), sm) 0 = amtOf sm := by
  unfold Schedule.expect Schedule.amountOf; rw [duties_at, Finset.sum_singleton]; rfl
theorem rest_at : bigSep ((sched (F := F) m ρ).duties ((c : Thread nD τ), sm) 0 \ ∅) (fun u => (sched (F := F) m ρ).payload ((c : Thread nD τ), sm) 0 u) = payOf m ρ c sm := by
  rw [Finset.sdiff_empty, duties_at, bigSep_singleton]; rfl

theorem amt_snd : amtOf (.dma (sndSem j)) = N := if_pos (by have := j.isLt; show 1 + j.val < 15; omega)
theorem amt_rcv : amtOf (.dma (rcvSem j)) = N := if_pos (by have := j.isLt; show 8 + j.val < 15; omega)
theorem amt_cpy : amtOf (.dma cpySem) = Nc := by unfold amtOf; exact if_neg (by decide)

theorem pay_rdy : payOf (F := F) m ρ c (.reg (rdySem j)) = rdyPay c j := by
  unfold payOf
  have h : (⟨((rdySem j).val + 1) % 7, Nat.mod_lt _ (by decide)⟩ : Fin 7) = j := by revert j; decide
  dsimp only
  rw [h]
theorem pay_snd : payOf (F := F) m ρ c (.dma (sndSem j)) = sndPay m ρ c j := by
  unfold payOf
  have h : (sndSem j).val < 8 := by have := j.isLt; show 1 + j.val < 8; omega
  dsimp only
  rw [dif_pos h]
  congr 1
  exact Fin.ext (by show 1 + j.val - 1 = j.val; omega)
theorem pay_rcv : payOf (F := F) m ρ c (.dma (rcvSem j)) = rcvPay m ρ c j := by
  unfold payOf
  have h : ¬ (rcvSem j).val < 8 := by show ¬ 8 + j.val < 8; omega
  have h' : (rcvSem j).val < 15 := by have := j.isLt; show 8 + j.val < 15; omega
  dsimp only
  rw [dif_neg h, dif_pos h']
  congr 1
  exact Fin.ext (by show 8 + j.val - 8 = j.val; omega)
theorem pay_cpy : payOf (F := F) m ρ c (.dma cpySem) = cpyPay m ρ c := by
  unfold payOf
  dsimp only
  rw [dif_neg (by decide), dif_neg (by decide)]

end Sched

/-! ## What each device owes, and the levels -/

/-- The copies still to be made to the peers of `S`, -/
def Orcv (c : Dev nD) (S : Finset (Fin 7)) : CellTallies nD τ sig Unit := ∑ j ∈ S, tallyAt (rcvCell (xo c j) j) () N
/-- and the signals still to be made. -/
def Ordy (c : Dev nD) (S : Finset (Fin 7)) : CellTallies nD τ sig Unit := ∑ j ∈ S, tallyAt (rdyCell (xo c j) j) () 1
/-- What device `c` owes at launch. -/
def O₀ (c : Dev nD) : CellTallies nD τ sig Unit := Orcv c Finset.univ + Ordy c Finset.univ

theorem Orcv_erase (c : Dev nD) {S : Finset (Fin 7)} {j : Fin 7} (h : j ∈ S) : Orcv c S = Orcv c (S.erase j) + tallyAt (rcvCell (xo c j) j) () N :=
  (Finset.sum_erase_add _ _ h).symm
theorem Ordy_erase (c : Dev nD) {S : Finset (Fin 7)} {j : Fin 7} (h : j ∈ S) : Ordy c S = Ordy c (S.erase j) + tallyAt (rdyCell (xo c j) j) () 1 :=
  (Finset.sum_erase_add _ _ h).symm
theorem Orcv_empty (c : Dev nD) : Orcv c ∅ = 0 := Finset.sum_empty
theorem Ordy_empty (c : Dev nD) : Ordy c ∅ = 0 := Finset.sum_empty

def L (g : GSem nD τ sig) : Finset Unit := if g.1.2 = .tc then {()} else ∅
/-- Ready cells stand at level 1, receive cells at 2, all others at 0. -/
def lv (g : GSem nD τ sig) (_ : Unit) : ℕ := match g.2 with
  | .reg _ => 1
  | .dma s => if 8 ≤ s.val ∧ s.val < 15 then 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_rdy (c : Dev nD) (j : Fin 7) (u : Unit) : lv (rdyCell c j) u = 1 := rfl
theorem lv_rcv (c : Dev nD) (j : Fin 7) (u : Unit) : lv (rcvCell c j) u = 2 := if_pos (by have := j.isLt; show 8 ≤ 8 + j.val ∧ 8 + j.val < 15; omega)

theorem Orcv_pos {c : Dev nD} {S : Finset (Fin 7)} {g : GSem nD τ sig} {u : Unit} (h : 0 < Orcv c S g u) : ∃ j, g = rcvCell (xo c j) j := by
  unfold Orcv at h
  rw [Finset.sum_apply, Finsupp.finset_sum_apply] at h
  obtain ⟨j, hj, hp⟩ := Finset.exists_ne_zero_of_sum_ne_zero h.ne'
  rw [tallyAt_apply] at hp
  by_contra hn
  rw [if_neg fun h' => hn ⟨j, h'.1⟩] at hp
  exact hp rfl
theorem Ordy_pos {c : Dev nD} {S : Finset (Fin 7)} {g : GSem nD τ sig} {u : Unit} (h : 0 < Ordy c S g u) : ∃ j, g = rdyCell (xo c j) j := by
  unfold Ordy at h
  rw [Finset.sum_apply, Finsupp.finset_sum_apply] at h
  obtain ⟨j, hj, hp⟩ := Finset.exists_ne_zero_of_sum_ne_zero h.ne'
  rw [tallyAt_apply] at hp
  by_contra hn
  rw [if_neg fun h' => hn ⟨j, h'.1⟩] at hp
  exact hp rfl

/-- A wait at a cell of level `≤ n` while only copies at level 2 are owed. -/
theorem mayWait_low (c : Dev nD) (sm : SemLoc sig) (S : Finset (Fin 7)) (hsm : lv ((c : Thread nD τ), sm) () ≤ 1) :
    (levAts L lv : sProp 𝕄) ⊢ MayWait (c : Thread nD τ) sm () (Orcv c S) :=
  MayOwe.of_cut (L := L) (lev := lv) 1 (fun p hp => by rw [Finset.mem_singleton.mp hp, L_tc]; exact Finset.mem_singleton_self _)
    (fun g u hg => by obtain ⟨j, rfl⟩ := Orcv_pos hg; rw [L_tc]; exact Finset.mem_singleton_self _)
    (fun p hp => by rw [Finset.mem_singleton.mp hp]; exact hsm)
    (fun g u hg => by obtain ⟨j, rfl⟩ := Orcv_pos hg; rw [lv_rcv]; decide)

/-- A wait at a cell of level 0, at launch or when nothing is owed. -/
theorem mayWait_stage (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · have key : ∀ g u, 0 < O₀ c g u → (∃ j, g = rcvCell (xo c j) j) ∨ ∃ j, g = rdyCell (xo c j) j := fun g u hg => by
      unfold O₀ at hg
      rw [Pi.add_apply, Finsupp.add_apply] at hg
      rcases Nat.add_pos_iff_pos_or_pos.mp hg with h | h
      · exact .inl (Orcv_pos h)
      · exact .inr (Ordy_pos h)
    refine MayOwe.of_cut (L := L) (lev := lv) 0 (fun p hp => by rw [Finset.mem_singleton.mp hp, L_tc]; exact Finset.mem_singleton_self _)
      (fun g u hg => by rcases key g u hg with ⟨j, rfl⟩ | ⟨j, rfl⟩ <;> (rw [L_tc]; exact Finset.mem_singleton_self _))
      (fun p hp => by rw [Finset.mem_singleton.mp hp]; exact hsm.le)
      (fun g u hg => by
        rcases key g u hg with ⟨j, rfl⟩ | ⟨j, rfl⟩
        · rw [lv_rcv]; decide
        · rw [lv_rdy]; decide)
  · rw [MayWait_zero]; iintro -; iempintro

end Cert.TopK

end
-- ==== Proof.Steps.lean ====
/-
  One lemma per kind of operation the body makes, each at a symbolic offset `j`, over ONE assertion `St` for what a
  device holds between two operations. `St` is indexed by four sets of offsets: the ready waits, the copies, the receive
  waits and the send waits still to be made; each lemma takes its offset out of one of them.
-/
module

public import proofs.«01_k».proof.Proof.Protocol

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots as memrefs -/

/-- The gather buffer whole, -/
abbrev gM : Memref sig .tc .vmem S8x256x8 .bf16 := Memref.whole cc0_scratch1
theorem slot_inb (o : Fin 8) : ∀ a, (![o.val, 0, 0] : Fin 3 → Nat) a + S1x256x8.size a ≤ S8x256x8.size a := by
  revert o; decide
/-- and its slot `o` as the copies address it. -/
abbrev slotM (o : Fin 8) : Memref sig .tc .vmem S256x8 .bf16 :=
  (gM.slice (Rect.unit (s := S8x256x8) ![o.val, 0, 0] S1x256x8.size (slot_inb o)) (fun _ => rfl)).squeeze S256x8 squeezes_S1x256x8_S256x8

theorem rect_set (o : Fin 8) (inb : ∀ a, (![o.val, 0, 0] : Fin 3 → Nat) a + S1x256x8.size a ≤ S8x256x8.size a) :
    (Rect.unit (s := S8x256x8) ![o.val, 0, 0] S1x256x8.size inb).set = slotSet o := by
  ext i
  rw [Rect.mem_set_unit, mem_slotSet]
  constructor
  · intro h
    have h0 : o.val ≤ (i 0).val ∧ (i 0).val < o.val + 1 := h 0
    omega
  · intro h a
    fin_cases a
    · show o.val ≤ (i 0).val ∧ (i 0).val < o.val + 1
      omega
    · exact ⟨Nat.zero_le _, by show (i 1).val < 0 + 256; have : (i 1).val < 256 := (i 1).isLt; omega⟩
    · exact ⟨Nat.zero_le _, by show (i 2).val < 0 + 8; have : (i 2).val < 8 := (i 2).isLt; omega⟩

theorem slotM_set (o : Fin 8) : (slotM o).view.set = slotSet o := by
  rw [← rect_set o (slot_inb o), ← View.set_slice_whole cc0_scratch1]
  exact View.set_reshape _ _

/-- The index a slot's element has inside the slot, read as a one-slot array. -/
def sqz (x : S256x8.Idx) : S1x256x8.Idx := Shape.reshapeEquiv (Shape.Squeezes.numel_eq (s := S1x256x8) (s' := S256x8) squeezes_S1x256x8_S256x8) x

theorem slotM_emb (o : Fin 8) (x : S256x8.Idx) :
    (slotM o).view.emb x = (Rect.unit (s := S8x256x8) ![o.val, 0, 0] S1x256x8.size (slot_inb o)).emb (sqz x) := rfl

theorem rect_emb_slot (o : Fin 8) (inb) (y : S1x256x8.Idx) :
    (((Rect.unit (s := S8x256x8) ![o.val, 0, 0] S1x256x8.size inb).emb y) 0).val = o.val := by
  have hy : (y 0).val < 1 := (y 0).isLt
  show o.val + 1 * (y 0).val = o.val
  omega

theorem rect_emb_in (o : Fin 8) (inb) (y : S1x256x8.Idx) :
    inSlot ((Rect.unit (s := S8x256x8) ![o.val, 0, 0] S1x256x8.size inb).emb y) = y := by
  have hy : (y 0).val < 1 := (y 0).isLt
  funext a
  apply Fin.ext
  fin_cases a
  · show 0 = (y 0).val; omega
  · show 0 + 1 * (y 1).val = (y 1).val; omega
  · show 0 + 1 * (y 2).val = (y 2).val; omega

/-- What the finished gather buffer holds at an element of slot `o`. -/
theorem gathered_emb (c : Dev nD) (o : Fin 8) (inb) (y : S1x256x8.Idx) :
    gathered m ρ c ((Rect.unit (s := S8x256x8) ![o.val, 0, 0] S1x256x8.size inb).emb y) = cand (xblk m ρ (at8 c o)) y := by
  unfold gathered
  have h0 : (show Fin 8 from ((Rect.unit (s := S8x256x8) ![o.val, 0, 0] S1x256x8.size inb).emb y) 0) = o := Fin.ext (rect_emb_slot o inb y)
  rw [rect_emb_in]
  exact congrArg (fun o => cand (xblk m ρ (at8 c o)) y) h0

/-- A copy of device `c`'s slot 0 into slot `j + 1` of its peer writes what the peer's finished buffer holds there. -/
theorem copy_writes (c : Dev nD) (j : Fin 7) (fd : S8x256x8.Idx → Elt F .bf16) :
    ∀ i ∈ slotSet j.succ, ((slotM j.succ).view.write (Elt F) fd ((slotM 0).view.read (Elt F) (gathered m ρ c)) Finset.univ) i = gathered m ρ (xo c j) i := by
  intro i hi
  rw [← slotM_set] at hi
  obtain ⟨x, -, rfl⟩ := Finset.mem_map.mp hi
  refine (View.write_emb_of_mem _ _ (Finset.mem_univ x)).trans ?_
  show gathered m ρ c ((slotM 0).view.emb x) = gathered m ρ (xo c j) ((slotM j.succ).view.emb x)
  rw [slotM_emb, slotM_emb, gathered_emb, gathered_emb, at8_zero, at8_at8]

/-! ## What a device holds -/

/-- Every cell's invariant, and that every cell has reached its round. -/
def records (K : Dev nD × Fin 22 → ℕ) : sProp 𝕄 :=
  iprop((bigSep Finset.univ fun ck : Dev nD × Fin 22 => cellInv ER (sched m ρ) (K ck) (kcell ck))
    ∗ bigSep Finset.univ fun ck : Dev nD × Fin 22 => reached ER (kcell ck) 0)

instance records_persistent (K : Dev nD × Fin 22 → ℕ) : BI.Persistent (records m ρ K) := by unfold records; infer_instance

theorem record_at (K : Dev nD × Fin 22 → ℕ) (c : Dev nD) (k : Fin 22) {sm : SemLoc sig} (h : semOf k = sm) :
    records m ρ K ⊢ iprop(cellInv ER (sched m ρ) (K (c, k)) ((c : Thread nD τ), sm) ∗ reached ER ((c : Thread nD τ), sm) 0) := by
  subst h
  unfold records
  exact BI.sep_mono (bigSep_elim (i := (c, k)) (Finset.mem_univ _)) (bigSep_elim (i := (c, k)) (Finset.mem_univ _))

/-- To signal offset `j`: the duty, and the slot the signal hands over. -/
def sigRes (c : Dev nD) (j : Fin 7) : sProp 𝕄 := iprop(dutyTok ER (rdyCell (xo c j) j) 0 () ∗ ∃ f, slotPts c j.succ fullShare f)
/-- To wait on a ready cell. -/
def rdyRes (c : Dev nD) (j : Fin 7) : sProp 𝕄 := iprop(atPos ER (rdyCell c j) 0 ∅ 0 ∗ cred (tallyAt (rdyCell c j) () 1))
/-- To copy: the two duties. -/
def sndRes (c : Dev nD) (j : Fin 7) : sProp 𝕄 := iprop(dutyTok ER (sndCell c j) 0 () ∗ dutyTok ER (rcvCell (xo c j) j) 0 ())
/-- To wait on a receive cell. -/
def rcvRes (c : Dev nD) (j : Fin 7) : sProp 𝕄 := iprop(atPos ER (rcvCell c j) 0 ∅ 0 ∗ cred (tallyAt (rcvCell c j) () N))

/-- What the device holds for offset `j`, once its own candidates are stored. -/
def piece (c : Dev nD) (B C D E : Finset (Fin 7)) (j : Fin 7) : sProp 𝕄 :=
  iprop((if j ∈ B then rdyRes c j else semVal (rdyCell c j) 0)
    ∗ (if j ∈ C then iprop((if j ∈ B then iprop(emp) else rdyPay c j) ∗ sndPay m ρ c j ∗ sndRes c j) else iprop(emp))
    ∗ (if j ∈ D then rcvRes c j else iprop(rcvPay m ρ c j ∗ semVal (rcvCell c j) 0))
    ∗ (if j ∈ E then iprop(atPos ER (sndCell c j) 0 ∅ 0 ∗ (if j ∈ C then iprop(emp) else cred (tallyAt (sndCell c j) () N)))
        else iprop(sndPay m ρ c j ∗ semVal (sndCell c j) 0)))

/-- What the device holds between two operations, once its own candidates are stored. -/
def St (K : Dev nD × Fin 22 → ℕ) (c : Dev nD) (B C D E : Finset (Fin 7)) (R : sProp 𝕄) : sProp 𝕄 :=
  iprop(records m ρ K ∗ levAts L lv ∗ (∃ W, owes (c : Thread nD τ) (Orcv c C) W) ∗ (bigSep Finset.univ fun j => piece m ρ c B C D E j) ∗ R)

/-- The same while signals are still to be made, to the offsets of `A`. -/
def Sg (K : Dev nD × Fin 22 → ℕ) (c : Dev nD) (A : Finset (Fin 7)) (R : sProp 𝕄) : sProp 𝕄 :=
  iprop(records m ρ K ∗ (∃ W, owes (c : Thread nD τ) (Orcv c Finset.univ + Ordy c A) W)
    ∗ (bigSep Finset.univ fun j => if j ∈ A then sigRes c j else iprop(emp)) ∗ R)

/-- One member of a family beside the others. -/
theorem bigSep_one {I : Type} [DecidableEq I] {s : Finset I} {i : I} (h : i ∈ s) (Φ : I → sProp 𝕄) : bigSep s Φ = iprop(Φ i ∗ bigSep (s.erase i) Φ) :=
  bigSep_erase h

/-- One member of a family changed, the others as they were. -/
theorem bigSep_swap {Φ Φ' : Fin 7 → sProp 𝕄} (j : Fin 7) (h : ∀ i, i ≠ j → Φ i = Φ' i) :
    bigSep Finset.univ Φ ⊢ iprop(Φ j ∗ (Φ' j -∗ bigSep Finset.univ Φ')) := by
  rw [bigSep_one (Finset.mem_univ j) Φ, bigSep_one (Finset.mem_univ j) Φ',
    bigSep_congr (s := Finset.univ.erase j) (Φ := Φ) (Ψ := Φ') fun i hi => h i (Finset.ne_of_mem_erase hi)]
  iintro ⟨H, Hr⟩
  isplitl [H]; · iexact H
  iintro H'
  isplitl [H'] <;> iassumption

section Steps

variable (K : Dev nD × Fin 22 → ℕ) (c : Dev nD)

/-- A ready signal to the peer. -/
theorem signal_step {α : Type} {Qc : α → sProp 𝕄} {k : PUnit → Prog (TpuEff nD τ sig (Elt F) Λ₀ .tc) α} (j : Fin 7) {A : Finset (Fin 7)} {R : sProp 𝕄} (hA : j ∈ A) (n : Dev nD) (hn : n = xo c j) (sem : Sem sig) (hs : sem = rdySem j)
    (a : ℤ) (ha : a = ((1 : ℕ) : ℤ))
    (hk : Sg m ρ K c (A.erase j) R ⊢ wp frame (wpE (defs₀ (F := F)) 𝒱₀ (c : Thread nD τ) none) Set.univ (k ⟨⟩) Qc) :
    Sg m ρ K c A R ⊢ wp frame (wpE (defs₀ (F := F)) 𝒱₀ (c : Thread nD τ) none) Set.univ (.op (.semSignal (n : Thread nD τ) sem a) k) Qc := by
  subst hn hs ha
  unfold Sg
  iintro ⟨#HR, ⟨%W, HO⟩, Hp, HF⟩
  ihave Hs := (bigSep_swap (Φ' := fun i => if i ∈ A.erase j then sigRes c i else iprop(emp)) j
    (fun i hi => by simp only [Finset.mem_erase, ne_eq, hi, not_false_eq_true, true_and])) $$ Hp
  icases Hs with ⟨Hj, Hback⟩
  ihave Hj' := (Entails.of_eq (if_pos hA)) $$ Hj
  unfold sigRes
  icases Hj' with ⟨Htok, Hslot⟩
  ihave HC := (record_at m ρ K (xo c j) (iRdy j) (semOf_rdy j)) $$ HR
  icases HC with ⟨#Hinv, #Hreach⟩
  iapply (Rounds.wp_signal 𝒱₀ ER (sched m ρ) (c : Thread nD τ) none (dst := (xo c j : Thread nD τ)) (κ := K (xo c j, iRdy j))
      (by rw [duties_at]; exact Finset.mem_singleton_self _) (k' := 1) rfl () (O₀ := Orcv c Finset.univ + Ordy c A) (Orcv c Finset.univ + Ordy c (A.erase j)) (by rw [Ordy_erase c hA, add_assoc])) $$ [HO Htok Hslot]
  · isplitr; · iexact Hinv
    isplitl [HO]; · iexact HO
    isplitl [Htok]; · iexact Htok
    isplitl [Hslot]
    · rw [show (sched (F := F) m ρ).payload (rdyCell (xo c j) j) 0 () = rdyPay (xo c j) j from pay_rdy m ρ (xo c j) j]
      unfold rdyPay; rw [xo_xo]; iexact Hslot
    · iexact Hreach
  iintro HO
  iapply hk
  unfold Sg
  isplitr; · iexact HR
  isplitl [HO]; · iexists W; iexact HO
  isplitl [Hback]
  · iapply Hback
    iapply (Entails.of_eq (if_neg (Finset.notMem_erase j A)).symm)
    iempintro
  · iexact HF

/-- A wait for a cell's whole round, the cell closed behind it: its units' payload, and its counter back at zero. -/
theorem wait_cell {α : Type} {Qc : α → sProp 𝕄} {k : PUnit → Prog (TpuEff nD τ sig (Elt F) Λ₀ .tc) α} (i : Fin 22) (sm : SemLoc sig) (hi : semOf i = sm)
    {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ sm n K)
    (hn : n = amtOf sm) (O : CellTallies nD τ sig Unit) :
    iprop(records m ρ K ∗ cred (tallyAt ((c : Thread nD τ), sm) () n) ∗ (∃ W, owes (c : Thread nD τ) O W)
        ∗ MayWait (c : Thread nD τ) sm () O ∗ atPos ER ((c : Thread nD τ), sm) 0 ∅ 0)
      ⊢ iprop((((∃ W, owes (c : Thread nD τ) O W) ∗ semVal ((c : Thread nD τ), sm) 0 ∗ payOf m ρ c sm)
            -∗ wp frame (wpE (defs₀ (F := F)) 𝒱₀ (c : Thread nD τ) none) Set.univ (k ⟨⟩) Qc)
          -∗ wp frame (wpE (defs₀ (F := F)) 𝒱₀ (c : Thread nD τ) none) Set.univ (.op w k) Qc) := by
  iintro ⟨#HR, Hc, ⟨%W, HO⟩, HM, Hat⟩ Hk
  ihave HC := (record_at m ρ K c i hi) $$ HR
  icases HC with ⟨#Hinv, -⟩
  iapply (Rounds.wp_wait_rest_token 𝒱₀ ER (sched m ρ) (c : Thread nD τ) none (κ := K (c, i)) (k' := n)
      hw (Set.mem_univ _) () (O := O) (W := W) (R := 0) (m := 0) (T := ∅) (by rw [Nat.zero_add, expect_at, hn])) $$ [Hc HO HM Hat]
  · isplitr; · iexact Hinv
    isplitl [Hc]; · iexact Hc
    isplitl [HO]; · iexact HO
    isplitl [HM]; · iexact HM
    iexact Hat
  iintro ⟨HO, Hat, -, Hpay⟩
  ihave Hp := (Entails.of_eq (rest_at m ρ c sm)) $$ Hpay
  imod (Rounds.cell_close ER (sched m ρ) (Set.mem_univ (K (c, i))) (fun h => h) (R := 0 + 1) (duties_later m ρ ((c : Thread nD τ), sm))) $$ [Hat] with Hz
  · isplitr; · iexact Hinv
    iexact Hat
  iapply Hk
  isplitl [HO]; · iexists _; iexact HO
  isplitl [Hz]; · iexact Hz
  iexact Hp

/-- A wait on a ready cell: the peer's slot comes with it. -/
theorem ready_step {α : Type} {Qc : α → sProp 𝕄} {k : PUnit → Prog (TpuEff nD τ sig (Elt F) Λ₀ .tc) α} (j : Fin 7) {B C D E : Finset (Fin 7)} {R : sProp 𝕄}
    (hB : j ∈ B) (hC : j ∈ C) (sem : Sem sig) (hs : sem = rdySem j) (a : ℤ) (ha : a = ((1 : ℕ) : ℤ))
    (hk : St m ρ K c (B.erase j) C D E R ⊢ wp frame (wpE (defs₀ (F := F)) 𝒱₀ (c : Thread nD τ) none) Set.univ (k ⟨⟩) Qc) :
    St m ρ K c B C D E R ⊢ wp frame (wpE (defs₀ (F := F)) 𝒱₀ (c : Thread nD τ) none) Set.univ (.op (.semWait sem a) k) Qc := by
  subst hs ha
  unfold St
  iintro ⟨#HR, #HL, HO, Hp, HF⟩
  ihave Hs := (bigSep_swap (Φ' := fun i => piece m ρ c (B.erase j) C D E i) j
    (fun i hi => by simp only [piece, Finset.mem_erase, ne_eq, hi, not_false_eq_true, true_and])) $$ Hp
  icases Hs with ⟨Hj, Hback⟩
  ihave Hj' := (Entails.of_eq (by simp only [piece, if_pos hB, if_pos hC] : piece m ρ c B C D E j
    = iprop(rdyRes c j ∗ (emp ∗ sndPay m ρ c j ∗ sndRes c j) ∗ (if j ∈ D then rcvRes c j else iprop(rcvPay m ρ c j ∗ semVal (rcvCell c j) 0))
        ∗ (if j ∈ E then iprop(atPos ER (sndCell c j) 0 ∅ 0 ∗ emp) else iprop(sndPay m ρ c j ∗ semVal (sndCell c j) 0))))) $$ Hj
  icases Hj' with ⟨Hres, ⟨-, Hsp, Hsr⟩, HD, HE⟩
  unfold rdyRes
  icases Hres with ⟨Hat, Hc⟩
  iapply (wait_cell m ρ K c (iRdy j) (.reg (rdySem j)) (semOf_rdy j) (wpE_semWait_eq 𝒱₀ (c : Thread nD τ) none Set.univ) rfl (Orcv c C)) $$ [Hc HO Hat]
  · isplitr; · iexact HR
    isplitl [Hc]; · iexact Hc
    isplitl [HO]; · iexact HO
    isplitr; · iapply (mayWait_low c (.reg (rdySem j)) C (le_of_eq (lv_rdy c j ()))); iexact HL
    iexact Hat
  iintro ⟨HO, Hz, Hpay⟩
  ihave Hd := (Entails.of_eq (pay_rdy m ρ c j)) $$ Hpay
  iapply hk
  unfold St
  isplitr; · iexact HR
  isplitr; · iexact HL
  isplitl [HO]; · iexact HO
  isplitr [HF]
  · iapply Hback
    iapply (Entails.of_eq (by simp only [piece, if_neg (Finset.notMem_erase j B), if_pos hC] : iprop(semVal (rdyCell c j) 0 ∗ (rdyPay c j ∗ sndPay m ρ c j ∗ sndRes c j) ∗ (if j ∈ D then rcvRes c j else iprop(rcvPay m ρ c j ∗ semVal (rcvCell c j) 0))
        ∗ (if j ∈ E then iprop(atPos ER (sndCell c j) 0 ∅ 0 ∗ emp) else iprop(sndPay m ρ c j ∗ semVal (sndCell c j) 0)))
        = piece m ρ c (B.erase j) C D E j))
    isplitl [Hz]; · iexact Hz
    isplitl [Hd Hsp Hsr]
    · isplitl [Hd]; · iexact Hd
      isplitl [Hsp] <;> iassumption
    isplitl [HD] <;> iassumption
  · iexact HF

/-- A copy of slot 0 to the peer. -/
theorem send_step {α : Type} {Qc : α → sProp 𝕄} {k : PUnit → Prog (TpuEff nD τ sig (Elt F) Λ₀ .tc) α} (j : Fin 7) {B C D E : Finset (Fin 7)} {R : sProp 𝕄}
    (hB : j ∉ B) (hC : j ∈ C) (hE : j ∈ E) (n : Dev nD) (hn : n = xo c j) (sS sV : DmaSem sig) (hS : sS = sndSem j) (hV : sV = rcvSem j)
    (src dst : Memref sig .tc .vmem S256x8 .bf16) (hsr : src = slotM 0) (hds : dst = slotM j.succ)
    {hsc : (dst : Memref sig (Dev.tc n : Thread nD τ).2.kind .vmem S256x8 .bf16).view.ref.isScScratch = false}
    {hsrc : src.view.WordExact} {hdst : dst.view.WordExact}
    {hsem : DmaTarget.Typed .vmem (.dma sV) (.remote (Dev.tc n : Thread nD τ) dst (.dma sS) hsc)}
    (hk : St m ρ K c B (C.erase j) D E R ⊢ wp frame (wpE (defs₀ (F := F)) 𝒱₀ (c : Thread nD τ) none) Set.univ (k ⟨⟩) Qc) :
    St m ρ K c B C D E R ⊢ wp frame (wpE (defs₀ (F := F)) 𝒱₀ (c : Thread nD τ) none) Set.univ
      (.op (.enqueueDma src (.remote (Dev.tc n : Thread nD τ) dst (.dma sS) hsc) (.dma sV) hsrc hdst hsem) k) Qc := by
  subst hn hS hV hsr hds
  unfold St
  iintro ⟨#HR, #HL, ⟨%W, HO⟩, Hp, HF⟩
  ihave Hs := (bigSep_swap (Φ' := fun i => piece m ρ c B (C.erase j) D E i) j
    (fun i hi => by simp only [piece, Finset.mem_erase, ne_eq, hi, not_false_eq_true, true_and])) $$ Hp
  icases Hs with ⟨Hj, Hback⟩
  ihave Hj' := (Entails.of_eq (by simp only [piece, if_neg hB, if_pos hC, if_pos hE] : piece m ρ c B C D E j
    = iprop(semVal (rdyCell c j) 0 ∗ (rdyPay c j ∗ sndPay m ρ c j ∗ sndRes c j) ∗ (if j ∈ D then rcvRes c j else iprop(rcvPay m ρ c j ∗ semVal (rcvCell c j) 0))
        ∗ atPos ER (sndCell c j) 0 ∅ 0 ∗ emp))) $$ Hj
  icases Hj' with ⟨Hz, ⟨Hd, Hsp, Hsr⟩, HD, Hat, -⟩
  unfold rdyPay sndRes
  icases Hd with ⟨%fd, Hd⟩
  icases Hsr with ⟨HtS, HtV⟩
  ihave HC1 := (record_at m ρ K c (iSnd j) (semOf_snd j)) $$ HR
  icases HC1 with ⟨#Hinv1, #Hre1⟩
  ihave HC2 := (record_at m ρ K (xo c j) (iRcv j) (semOf_rcv j)) $$ HR
  icases HC2 with ⟨#Hinv2, #Hre2⟩
  iapply (Rounds.wp_send_pointsTo 𝒱₀ ER (sched m ρ) (c : Thread nD τ) none (c' := (xo c j : Thread nD τ)) (src := slotM 0) (dst := slotM j.succ) (sS := .dma (sndSem j)) (sem := .dma (rcvSem j)) (κ₁ := K (c, iSnd j)) (κ₂ := K (xo c j, iRcv j))
    (q := tok j) (fs := gathered m ρ c) (r₁ := 0) (r₂ := 0) (d₁ := ()) (d₂ := ()) (fd := fd)
    (by rw [duties_at]; exact Finset.mem_singleton_self _) (by rw [duties_at]; exact Finset.mem_singleton_self _)
    () () N rfl (show (sched (F := F) m ρ).amount (sndCell c j) 0 () = N from amt_snd j)
    (show (sched (F := F) m ρ).amount (rcvCell (xo c j) j) 0 () = N from amt_rcv j) (O₀ := Orcv c C) (Orcv c (C.erase j)) (Orcv_erase c hC) (W := W)
    (by rw [show (sched (F := F) m ρ).payload (sndCell c j) 0 () = sndPay m ρ c j from pay_snd m ρ c j, slotM_set]; unfold sndPay slotPts; exact BI.Entails.refl _)
    (by
      rw [show (sched (F := F) m ρ).payload (rcvCell (xo c j) j) 0 () = rcvPay m ρ (xo c j) j from pay_rcv m ρ (xo c j) j, slotM_set]
      unfold rcvPay slotPts
      exact Entails.of_eq (pointsTo_congr (copy_writes m ρ c j fd)))) $$ [HO Hd Hsp HtS HtV]
  · isplitr; · iexact Hinv1
    isplitr; · iexact Hinv2
    isplitl [Hsp]; · rw [slotM_set]; unfold sndPay slotPts; iexact Hsp
    isplitl [Hd]; · rw [slotM_set]; unfold slotPts; iexact Hd
    isplitl [HO]; · iexact HO
    isplitl [HtS]; · iexact HtS
    isplitr; · iexact Hre1
    isplitl [HtV]; · iexact HtV
    iexact Hre2
  iintro ⟨Hc, HO⟩
  iapply hk
  unfold St
  isplitr; · iexact HR
  isplitr; · iexact HL
  isplitl [HO]; · iexists W; iexact HO
  isplitr [HF]
  · iapply Hback
    iapply (Entails.of_eq (by simp only [piece, if_neg hB, if_neg (Finset.notMem_erase j C), if_pos hE] : iprop(semVal (rdyCell c j) 0 ∗ emp ∗ (if j ∈ D then rcvRes c j else iprop(rcvPay m ρ c j ∗ semVal (rcvCell c j) 0))
        ∗ atPos ER (sndCell c j) 0 ∅ 0 ∗ cred (tallyAt (sndCell c j) () N)) = piece m ρ c B (C.erase j) D E j))
    isplitl [Hz]; · iexact Hz
    isplitr; · iempintro
    isplitl [HD]; · iexact HD
    isplitl [Hat] <;> iassumption
  · iexact HF

/-- A wait on a receive cell, every copy made: the peer's candidates come with it. -/
theorem recv_step {α : Type} {Qc : α → sProp 𝕄} {k : PUnit → Prog (TpuEff nD τ sig (Elt F) Λ₀ .tc) α} (j : Fin 7) {B D E : Finset (Fin 7)} {R : sProp 𝕄}
    (hD : j ∈ D) (sV : DmaSem sig) (hV : sV = rcvSem j)
    (src dst : Memref sig .tc .vmem S256x8 .bf16) (hds : dst = slotM j.succ) {hsrc : src.view.WordExact} {hdst : dst.view.WordExact}
    (hk : St m ρ K c B ∅ (D.erase j) E R ⊢ wp frame (wpE (defs₀ (F := F)) 𝒱₀ (c : Thread nD τ) none) Set.univ (k ⟨⟩) Qc) :
    St m ρ K c B ∅ D E R ⊢ wp frame (wpE (defs₀ (F := F)) 𝒱₀ (c : Thread nD τ) none) Set.univ (.op (.waitDma2 sV src dst hsrc hdst) k) Qc := by
  subst hV hds
  unfold St
  iintro ⟨#HR, #HL, HO, Hp, HF⟩
  ihave Hs := (bigSep_swap (Φ' := fun i => piece m ρ c B ∅ (D.erase j) E i) j
    (fun i hi => by simp only [piece, Finset.mem_erase, ne_eq, hi, not_false_eq_true, true_and])) $$ Hp
  icases Hs with ⟨Hj, Hback⟩
  unfold piece
  icases Hj with ⟨HB, HC, Hj, HE⟩
  ihave Hres := (Entails.of_eq (if_pos hD)) $$ Hj
  unfold rcvRes
  icases Hres with ⟨Hat, Hc⟩
  rw [Orcv_empty]
  iapply (wait_cell m ρ K c (iRcv j) (.dma (rcvSem j)) (semOf_rcv j) (w := .waitDma2 (rcvSem j) src (slotM j.succ) hsrc hdst) (n := N) (wpE_waitDma2_eq 𝒱₀ (c : Thread nD τ) none Set.univ) (amt_rcv j).symm 0) $$ [Hc HO Hat]
  · isplitr; · iexact HR
    isplitl [Hc]; · iexact Hc
    isplitl [HO]; · iexact HO
    isplitr; · rw [MayWait_zero]; iempintro
    iexact Hat
  iintro ⟨HO, Hz, Hpay⟩
  ihave Hd := (Entails.of_eq (pay_rcv m ρ c j)) $$ Hpay
  iapply hk
  unfold St
  rw [Orcv_empty]
  isplitr; · iexact HR
  isplitr; · iexact HL
  isplitl [HO]; · iexact HO
  isplitr [HF]
  · iapply Hback
    isplitl [HB]; · iexact HB
    isplitl [HC]; · iexact HC
    isplitr [HE]
    · iapply (Entails.of_eq (if_neg (Finset.notMem_erase j D)).symm)
      isplitl [Hd] <;> iassumption
    · iexact HE
  · iexact HF

/-- A wait on a send cell, every copy made: the share of slot 0 comes back. -/
theorem sent_step {α : Type} {Qc : α → sProp 𝕄} {k : PUnit → Prog (TpuEff nD τ sig (Elt F) Λ₀ .tc) α} (j : Fin 7) {B D E : Finset (Fin 7)} {R : sProp 𝕄}
    (hE : j ∈ E) (sS : DmaSem sig) (hS : sS = sndSem j)
    (src dst : Memref sig .tc .vmem S256x8 .bf16) (hds : dst = slotM 0) {hsrc : src.view.WordExact} {hdst : dst.view.WordExact}
    (hk : St m ρ K c B ∅ D (E.erase j) R ⊢ wp frame (wpE (defs₀ (F := F)) 𝒱₀ (c : Thread nD τ) none) Set.univ (k ⟨⟩) Qc) :
    St m ρ K c B ∅ D E R ⊢ wp frame (wpE (defs₀ (F := F)) 𝒱₀ (c : Thread nD τ) none) Set.univ (.op (.waitDma2 sS src dst hsrc hdst) k) Qc := by
  subst hS hds
  unfold St
  iintro ⟨#HR, #HL, HO, Hp, HF⟩
  ihave Hs := (bigSep_swap (Φ' := fun i => piece m ρ c B ∅ D (E.erase j) i) j
    (fun i hi => by simp only [piece, Finset.mem_erase, ne_eq, hi, not_false_eq_true, true_and])) $$ Hp
  icases Hs with ⟨Hj, Hback⟩
  unfold piece
  icases Hj with ⟨HB, HC, HD, Hj⟩
  ihave Hres := (Entails.of_eq (if_pos hE)) $$ Hj
  icases Hres with ⟨Hat, Hcr⟩
  ihave Hc := (Entails.of_eq (if_neg (Finset.notMem_empty j))) $$ Hcr
  rw [Orcv_empty]
  iapply (wait_cell m ρ K c (iSnd j) (.dma (sndSem j)) (semOf_snd j) (w := .waitDma2 (sndSem j) src (slotM 0) hsrc hdst) (n := N) (wpE_waitDma2_eq 𝒱₀ (c : Thread nD τ) none Set.univ) (amt_snd j).symm 0) $$ [Hc HO Hat]
  · isplitr; · iexact HR
    isplitl [Hc]; · iexact Hc
    isplitl [HO]; · iexact HO
    isplitr; · rw [MayWait_zero]; iempintro
    iexact Hat
  iintro ⟨HO, Hz, Hpay⟩
  ihave Hd := (Entails.of_eq (pay_snd m ρ c j)) $$ Hpay
  iapply hk
  unfold St
  rw [Orcv_empty]
  isplitr; · iexact HR
  isplitr; · iexact HL
  isplitl [HO]; · iexact HO
  isplitr [HF]
  · iapply Hback
    isplitl [HB]; · iexact HB
    isplitl [HC]; · iexact HC
    isplitl [HD]; · iexact HD
    iapply (Entails.of_eq (if_neg (Finset.notMem_erase j E)).symm)
    isplitl [Hd] <;> iassumption
  · iexact HF

end Steps

/-! ## Reading received slots -/

/-- A family with one more member. -/
theorem bigSep_put {I : Type} [DecidableEq I] {s : Finset I} {i : I} (h : i ∉ s) (Φ : I → sProp 𝕄) : bigSep (insert i s) Φ = iprop(Φ i ∗ bigSep s Φ) :=
  bigSep_insert h

/-- A family taken apart, each member leaving what rebuilds it. -/
theorem bigSep_borrow {I : Type} [DecidableEq I] (S : Finset I) {Φ P : I → sProp 𝕄} (h : ∀ j ∈ S, Φ j ⊢ iprop(P j ∗ (P j -∗ Φ j))) :
    bigSep S Φ ⊢ iprop(bigSep S P ∗ (bigSep S P -∗ bigSep S Φ)) := by
  induction S using Finset.induction_on with
  | empty =>
    rw [bigSep_empty, bigSep_empty]
    iintro -
    isplitr; · iempintro
    iintro -; iempintro
  | insert t S ht ih =>
    rw [bigSep_put ht Φ, bigSep_put ht P]
    iintro ⟨Ht, HS⟩
    ihave H1 := (h t (Finset.mem_insert_self _ _)) $$ Ht
    ihave H2 := (ih fun j hj => h j (Finset.mem_insert_of_mem hj)) $$ HS
    icases H1 with ⟨Hp, Hpb⟩
    icases H2 with ⟨Hs, Hsb⟩
    isplitl [Hp Hs]
    · isplitl [Hp] <;> iassumption
    iintro ⟨Hp, Hs⟩
    isplitl [Hp Hpb]
    · iapply Hpb; iexact Hp
    · iapply Hsb; iexact Hs

/-- A slot held whole lends the share of it that slot 0 keeps. -/
theorem slot_lend (c : Dev nD) (o : Fin 8) (f : S8x256x8.Idx → Elt F .bf16) :
    slotPts c o fullShare f ⊢ iprop(slotPts c o kept f ∗ (slotPts c o kept f -∗ slotPts c o fullShare f)) := by
  unfold slotPts
  refine (Transfers.pointsTo_toks_split fullShare 7).trans ?_
  iintro ⟨Hd, Ht⟩
  isplitl [Hd]; · iexact Hd
  iintro Hd
  iapply (Transfers.pointsTo_toks_join fullShare 7)
  isplitl [Hd] <;> iassumption

/-- The elements of the slots received, one set for each offset. -/
def gotSet (T : Finset (Fin 7)) (j : Fin 7) : Finset S8x256x8.Idx := if j ∈ T then slotSet j.succ else ∅

theorem piece_lend (c : Dev nD) (B C D E T : Finset (Fin 7)) (hT : ∀ j ∈ T, j ∉ D) (j : Fin 7) :
    piece m ρ c B C D E j ⊢ iprop((((c : Thread nD τ).loc cc0_scratch1) ↦[gotSet T j]{kept} (gathered m ρ c : Buf (Elt F) ((c : Thread nD τ).loc cc0_scratch1)))
      ∗ ((((c : Thread nD τ).loc cc0_scratch1) ↦[gotSet T j]{kept} (gathered m ρ c : Buf (Elt F) ((c : Thread nD τ).loc cc0_scratch1))) -∗ piece m ρ c B C D E j)) := by
  by_cases h : j ∈ T
  · rw [gotSet, if_pos h]
    unfold piece
    rw [if_neg (hT j h)]
    unfold rcvPay
    iintro ⟨HB, HC, ⟨Hp, Hz⟩, HE⟩
    ihave Hl := (slot_lend c j.succ (gathered m ρ c)) $$ Hp
    icases Hl with ⟨Hk, Hb⟩
    isplitl [Hk]; · unfold slotPts; iexact Hk
    iintro Hk
    isplitl [HB]; · iexact HB
    isplitl [HC]; · iexact HC
    isplitl [Hk Hb Hz]
    · isplitl [Hk Hb]
      · iapply Hb; unfold slotPts; iexact Hk
      · iexact Hz
    · iexact HE
  · rw [gotSet, if_neg h, pointsTo_empty]
    iintro H
    isplitr; · iempintro
    iintro -; iexact H

theorem gotSet_disjoint (T : Finset (Fin 7)) : ∀ j ∈ (Finset.univ : Finset (Fin 7)), ∀ j' ∈ (Finset.univ : Finset (Fin 7)), j ≠ j' → Disjoint (gotSet T j) (gotSet T j') := by
  intro j _ j' _ h
  unfold gotSet
  split
  · split
    · exact slotSet_disjoint fun e => h (Fin.succ_injective _ e)
    · exact Finset.disjoint_empty_right _
  · exact Finset.disjoint_empty_left _

theorem gotSet_zero (T : Finset (Fin 7)) : Disjoint (slotSet 0) (Finset.univ.biUnion (gotSet T)) := by
  refine (Finset.disjoint_biUnion_right _ _ _).mpr fun j _ => ?_
  unfold gotSet
  split
  · exact slotSet_disjoint (Fin.succ_ne_zero j).symm
  · exact Finset.disjoint_empty_right _

/-- A load from slots that are all filled: slot 0 and those of the offsets `T`. -/
theorem load_step (K : Dev nD × Fin 22 → ℕ) (c : Dev nD) {α : Type} {Qc : α → sProp 𝕄} (r : Rect S8x256x8) {hl : (gM : Memref sig .tc .vmem S8x256x8 .bf16).view.LoadsAt r}
    {k : (r.shape.Idx → Elt F .bf16) → Prog (TpuEff nD τ sig (Elt F) Λ₀ .tc) α} (T : Finset (Fin 7)) {B C D E : Finset (Fin 7)} {R : sProp 𝕄}
    (hT : ∀ j ∈ T, j ∉ D) (hr : r.set ⊆ slotSet 0 ∪ Finset.univ.biUnion (gotSet T))
    (hk : St m ρ K c B C D E iprop(slotPts c 0 kept (gathered m ρ c) ∗ R)
      ⊢ wp frame (wpE (defs₀ (F := F)) 𝒱₀ (c : Thread nD τ) none) Set.univ (k fun y => gathered m ρ c (r.emb y)) Qc) :
    St m ρ K c B C D E iprop(slotPts c 0 kept (gathered m ρ c) ∗ R)
      ⊢ wp frame (wpE (defs₀ (F := F)) 𝒱₀ (c : Thread nD τ) none) Set.univ (.op (.load gM r hl) k) Qc := by
  unfold St at hk ⊢
  iintro ⟨HR, HL, HO, Hp, Hs, HF⟩
  ihave Hb := (bigSep_borrow Finset.univ fun j _ => piece_lend m ρ c B C D E T hT j) $$ Hp
  icases Hb with ⟨Hg, Hback⟩
  ihave Hg' := (Entails.of_eq (pointsTo_biUnion Finset.univ (gotSet T) (gotSet_disjoint T)).symm) $$ Hg
  ihave Hu := ((pointsTo_union (ℓ := (c : Thread nD τ).loc cc0_scratch1) (gotSet_zero T)).2) $$ [Hs Hg']
  · isplitl [Hs]
    · unfold slotPts; iexact Hs
    · iexact Hg'
  iapply (wp_load_rect 𝒱₀ (c : Thread nD τ) none Set.univ (m := gM) (r := r) (f := gathered m ρ c)
    (show ((gM.access r).set) ⊆ _ from by rw [show (gM.access r).set = r.set from View.set_slice_whole cc0_scratch1 r]; exact hr)) $$ Hu
  iintro Hu
  ihave Hu' := ((pointsTo_union (ℓ := (c : Thread nD τ).loc cc0_scratch1) (gotSet_zero T)).1) $$ Hu
  icases Hu' with ⟨Hs, Hg⟩
  ihave Hg' := (Entails.of_eq (pointsTo_biUnion Finset.univ (gotSet T) (gotSet_disjoint T))) $$ Hg
  iapply hk
  isplitl [HR]; · iexact HR
  isplitl [HL]; · iexact HL
  isplitl [HO]; · iexact HO
  isplitl [Hback Hg']
  · iapply Hback; iexact Hg'
  isplitl [Hs]
  · unfold slotPts; iexact Hs
  · iexact HF

end Cert.TopK

end
-- ==== Proof.Body.lean ====
/-
  The kernel's body on a symbolic device `c`, from what it holds at the region's entry to what it holds at the exit:
  the steps of Steps.lean in program order, the local copy, the loads and the stores between them.
-/
module

public import proofs.«01_k».proof.Proof.Steps

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and what it leaves -/

/-- Per offset: the duties the device pays, its positions, -/
def lin (c : Dev nD) (j : Fin 7) : sProp 𝕄 :=
  iprop(dutyTok ER (rdyCell (xo c j) j) 0 () ∗ atPos ER (rdyCell c j) 0 ∅ 0 ∗ sndRes c j ∗ atPos ER (rcvCell c j) 0 ∅ 0 ∗ atPos ER (sndCell c j) 0 ∅ 0)
/-- and the units its peers owe it. -/
def crd (c : Dev nD) (j : Fin 7) : sProp 𝕄 := iprop(cred (tallyAt (rdyCell c j) () 1) ∗ cred (tallyAt (rcvCell c j) () N))
/-- The local copy's duty and position. -/
def cpyRes (c : Dev nD) : sProp 𝕄 := iprop(dutyTok ER (cpyCell c) 0 () ∗ atPos ER (cpyCell c) 0 ∅ 0)

/-- All of a device's ghost state at launch. -/
def ghost (K : Dev nD × Fin 22 → ℕ) (c : Dev nD) : sProp 𝕄 := iprop(records m ρ K ∗ (bigSep Finset.univ fun j => lin c j) ∗ cpyRes c)
def start (c : Dev nD) : sProp 𝕄 := iprop((∃ K, ghost m ρ K c) ∗ (bigSep Finset.univ fun j => crd c j) ∗ levAts L lv ∗ argPts m ρ c)

/-- The gather buffer whole. -/
def gPts (c : Dev nD) (f : S8x256x8.Idx → Elt F .bf16) : sProp 𝕄 :=
  ((c : Thread nD τ).loc cc0_scratch1) ↦{fullShare} (f : Buf (Elt F) ((c : Thread nD τ).loc cc0_scratch1))
/-- The result's staging buffer whole. -/
def outPts (c : Dev nD) (f : S256x8.Idx → Elt F .f32) : sProp 𝕄 :=
  ((c : Thread nD τ).loc cc0_stg0_0) ↦{fullShare} (f : Buf (Elt F) ((c : Thread nD τ).loc cc0_stg0_0))

def Φ₀ (c : Dev nD) : sProp 𝕄 := iprop(start m ρ c ∗ (∃ f, locPts c f) ∗ ∃ f, gPts c f)
/-- Afterwards every counter is back at zero and the argument is as it was. -/
def Φ₁ (c : Dev nD) : sProp 𝕄 :=
  iprop(argPts m ρ c ∗ (bigSep Finset.univ fun j => semVal (rdyCell c j) 0) ∗ (bigSep Finset.univ fun j => semVal (sndCell c j) 0)
    ∗ (bigSep Finset.univ fun j => semVal (rcvCell c j) 0) ∗ semVal (cpyCell c) 0 ∗ (∃ f, locPts c f) ∗ ∃ f, gPts c f)

/-! ## What the body computes -/

abbrev rect6 : Rect S8x256x8 := Rect.unit (s := S8x256x8) ![0, 0, 0] S6x256x8.size inb_S8x256x8_S6x256x8_0_0_0
abbrev rectOf (o : Fin 8) : Rect S8x256x8 := Rect.unit (s := S8x256x8) ![o.val, 0, 0] S1x256x8.size (slot_inb o)

/-- The first merge's eight, from the six slots it reads, -/
def merged (y : Vec F S6x256x8 .bf16) (y6 y7 : Vec F S1x256x8 .bf16) : FVec F S256x8 .f32 :=
  k0_pay32
    (k0_pay27 (k0_pay11 y) (k0_pay13 y) (k0_pay16 (k0_pay15 y)) (k0_pay18 (k0_pay14 y) (k0_pay15 y)) (k0_pay20 (k0_pay14 y) (k0_pay15 y))
      (k0_pay22 (k0_pay14 y) (k0_pay15 y)) (k0_pay24 (k0_pay14 y) (k0_pay15 y)) (k0_pay25 (k0_pay14 y) (k0_pay15 y)) y6 y7)
    (k0_pay28 (k0_pay11 y) (k0_pay13 y) (k0_pay16 (k0_pay15 y)) (k0_pay18 (k0_pay14 y) (k0_pay15 y)) (k0_pay20 (k0_pay14 y) (k0_pay15 y))
      (k0_pay22 (k0_pay14 y) (k0_pay15 y)) (k0_pay24 (k0_pay14 y) (k0_pay15 y)) (k0_pay25 (k0_pay14 y) (k0_pay15 y)) y6 y7)
    (k0_pay29 (k0_pay11 y) (k0_pay13 y) (k0_pay16 (k0_pay15 y)) (k0_pay18 (k0_pay14 y) (k0_pay15 y)) (k0_pay20 (k0_pay14 y) (k0_pay15 y))
      (k0_pay22 (k0_pay14 y) (k0_pay15 y)) (k0_pay24 (k0_pay14 y) (k0_pay15 y)) (k0_pay25 (k0_pay14 y) (k0_pay15 y)) y6 y7)
    (k0_pay30 (k0_pay11 y) (k0_pay13 y) (k0_pay16 (k0_pay15 y)) (k0_pay18 (k0_pay14 y) (k0_pay15 y)) (k0_pay20 (k0_pay14 y) (k0_pay15 y))
      (k0_pay22 (k0_pay14 y) (k0_pay15 y)) (k0_pay24 (k0_pay14 y) (k0_pay15 y)) (k0_pay25 (k0_pay14 y) (k0_pay15 y)) y6 y7)
    (k0_pay31 (F := F))

/-- The result on device `c`: the merges of what its gather buffer holds. -/
def outAt (c : Dev nD) : S256x8.Idx → Elt F .f32 :=
  merged (fun y => gathered m ρ c (rect6.emb y)) (fun y => gathered m ρ c ((rectOf 6).emb y)) (fun y => gathered m ρ c ((rectOf 7).emb y))

/-! ## The part before the exchange -/

/-- What the signals leave aside for offset `j`. -/
def aside (c : Dev nD) (j : Fin 7) : sProp 𝕄 := iprop(rdyRes c j ∗ sndRes c j ∗ rcvRes c j ∗ atPos ER (sndCell c j) 0 ∅ 0)

/-- The gather buffer as slot 0 beside the others. -/
theorem gPts_slots (c : Dev nD) (f : S8x256x8.Idx → Elt F .bf16) :
    gPts c f = iprop(slotPts c 0 fullShare f ∗ bigSep Finset.univ fun j : Fin 7 => slotPts c j.succ fullShare f) := by
  have hd : ∀ o ∈ (Finset.univ : Finset (Fin 8)), ∀ o' ∈ (Finset.univ : Finset (Fin 8)), o ≠ o' → Disjoint (slotSet o) (slotSet o') :=
    fun _ _ _ _ h => slotSet_disjoint h
  have hu : (Finset.univ : Finset (Fin 8)).biUnion slotSet = (Finset.univ : Finset S8x256x8.Idx) :=
    Finset.eq_univ_of_forall fun i => Finset.mem_biUnion.mpr ⟨i 0, Finset.mem_univ _, mem_slotSet.mpr rfl⟩
  have h8 : (Finset.univ : Finset (Fin 8)).erase 0 = Finset.univ.map ⟨Fin.succ, Fin.succ_injective _⟩ := by decide
  unfold gPts slotPts
  let Φ : Fin 8 → sProp 𝕄 := fun o => ((c : Thread nD τ).loc cc0_scratch1) ↦[slotSet o]{fullShare} (f : Buf (Elt F) ((c : Thread nD τ).loc cc0_scratch1))
  have h0 := pointsTo_biUnion (Ix := Unit) (Name := ℕ) (U := UU) (Lvl := ℕ) (ℓ := (c : Thread nD τ).loc cc0_scratch1) (q := fullShare) (f := f) Finset.univ slotSet hd
  rw [hu] at h0
  have h1 : ((((c : Thread nD τ).loc cc0_scratch1) ↦{fullShare} (f : Buf (Elt F) ((c : Thread nD τ).loc cc0_scratch1))) : sProp 𝕄) = bigSep Finset.univ Φ := h0
  have h2 : bigSep (Finset.univ.map ⟨Fin.succ, Fin.succ_injective 7⟩) Φ = bigSep Finset.univ fun j : Fin 7 => Φ j.succ := bigSep_map _
  exact h1.trans ((bigSep_one (Finset.mem_univ 0) Φ).trans (congrArg (fun P => iprop(Φ 0 ∗ P)) ((congrArg (fun S => bigSep S Φ) h8).trans h2)))

/-- The state from which the signals are made. -/
theorem enter (K : Dev nD × Fin 22 → ℕ) (c : Dev nD) (f1 : S8x256x8.Idx → Elt F .bf16) (Q : sProp 𝕄) :
    iprop(ghost m ρ K c ∗ (bigSep Finset.univ fun j => crd c j) ∗ (∃ W, owes (c : Thread nD τ) (O₀ c) W) ∗ gPts c f1 ∗ Q)
      ⊢ Sg m ρ K c Finset.univ iprop((bigSep Finset.univ fun j => aside c j) ∗ cpyRes c ∗ slotPts c 0 fullShare f1 ∗ Q) := by
  have hj : ∀ j ∈ (Finset.univ : Finset (Fin 7)), iprop(lin c j ∗ crd c j ∗ slotPts c j.succ fullShare f1)
      ⊢ iprop((if j ∈ (Finset.univ : Finset (Fin 7)) then sigRes c j else iprop(emp)) ∗ aside c j) := fun j hj => by
    rw [if_pos hj]
    unfold lin crd aside sigRes rdyRes rcvRes
    iintro ⟨⟨Ht, Ha, Hs, Hr, Hn⟩, ⟨Hc, Hc'⟩, Hp⟩
    isplitl [Ht Hp]
    · isplitl [Ht]; · iexact Ht
      iexists f1; iexact Hp
    isplitl [Ha Hc]
    · isplitl [Ha] <;> iassumption
    isplitl [Hs]; · iexact Hs
    isplitl [Hr Hc']
    · isplitl [Hr] <;> iassumption
    iexact Hn
  unfold ghost Sg
  rw [gPts_slots]
  iintro ⟨⟨HR, Hl, Hc⟩, Hcr, HO, ⟨H0, Hs⟩, HQ⟩
  ihave H := (show iprop((bigSep Finset.univ fun j => lin c j) ∗ (bigSep Finset.univ fun j => crd c j) ∗ bigSep Finset.univ fun j : Fin 7 => slotPts c j.succ fullShare f1)
      ⊢ iprop((bigSep Finset.univ fun j => if j ∈ (Finset.univ : Finset (Fin 7)) then sigRes c j else iprop(emp)) ∗ bigSep Finset.univ fun j => aside c j) from by
        rw [← bigSep_sep', ← bigSep_sep', ← bigSep_sep']; exact bigSep_mono hj) $$ [Hl Hcr Hs]
  · isplitl [Hl]; · iexact Hl
    isplitl [Hcr] <;> iassumption
  icases H with ⟨H1, H2⟩
  isplitl [HR]; · iexact HR
  isplitl [HO]; · iexact HO
  isplitl [H1]; · iexact H1
  isplitl [H2]; · iexact H2
  isplitl [Hc]; · iexact Hc
  isplitl [H0] <;> iassumption

/-- What the device holds between the local copy and the store of its candidates. -/
def Mid (K : Dev nD × Fin 22 → ℕ) (c : Dev nD) (f1 : S8x256x8.Idx → Elt F .bf16) (Q : sProp 𝕄) : sProp 𝕄 :=
  iprop(records m ρ K ∗ levAts L lv ∗ (∃ W, owes (c : Thread nD τ) (Orcv c Finset.univ) W) ∗ (bigSep Finset.univ fun j => aside c j)
    ∗ slotPts c 0 fullShare f1 ∗ locPts c (xblk m ρ c) ∗ (argPts m ρ c ∗ semVal (cpyCell c) 0) ∗ Q)

abbrev aM : Memref sig .tc .hbm S256x1024 .f32 := Memref.whole main_arg0
abbrev lM : Memref sig .tc .vmem S256x1024 .f32 := Memref.whole cc0_scratch0
abbrev oM : Memref sig .tc .vmem S256x8 .f32 := Memref.whole cc0_stg0_0

theorem lv_cpy (c : Dev nD) (u : Unit) : lv (cpyCell c) u = 0 := by unfold lv; exact if_neg (by decide)

/-- The local copy and the wait for it. -/
theorem copy_step (K : Dev nD × Fin 22 → ℕ) (c : Dev nD) {α : Type} {Qc : α → sProp 𝕄} {k : PUnit → Prog (TpuEff nD τ sig (Elt F) Λ₀ .tc) α}
    (f1 : S8x256x8.Idx → Elt F .bf16) (f0 : S256x1024.Idx → Elt F .f32) {Q : sProp 𝕄} (sA : DmaSem sig) (hA : sA = cpySem)
    {hsrc : (aM : Memref sig .tc .hbm S256x1024 .f32).view.WordExact} {hdst : (lM : Memref sig .tc .vmem S256x1024 .f32).view.WordExact}
    {hsem : DmaTarget.Typed (nD := nD) .hbm (.dma sA) (.here (p := (c : Thread nD τ).2) (lM : Memref sig .tc .vmem S256x1024 .f32))}
    {hsrc' : (aM : Memref sig .tc .hbm S256x1024 .f32).view.WordExact} {hdst' : (lM : Memref sig .tc .vmem S256x1024 .f32).view.WordExact}
    (hk : Mid m ρ K c f1 Q ⊢ wp frame (wpE (defs₀ (F := F)) 𝒱₀ (c : Thread nD τ) none) Set.univ (k ⟨⟩) Qc) :
    Sg m ρ K c ∅ iprop((bigSep Finset.univ fun j => aside c j) ∗ cpyRes c ∗ slotPts c 0 fullShare f1 ∗ levAts L lv ∗ argPts m ρ c ∗ locPts c f0 ∗ Q)
      ⊢ wp frame (wpE (defs₀ (F := F)) 𝒱₀ (c : Thread nD τ) none) Set.univ
        (.op (.enqueueDma aM (.here lM) (.dma sA) hsrc hdst hsem) fun _ => .op (.waitDma2 sA aM lM hsrc' hdst') k) Qc := by
  subst hA
  unfold Sg cpyRes
  rw [Ordy_empty, add_zero]
  iintro ⟨#HR, HO, -, Has, ⟨Htok, Hat⟩, H0, #HL, Harg, Hloc, HQ⟩
  ihave HC := (record_at m ρ K c iCpy semOf_cpy) $$ HR
  icases HC with ⟨#Hinv, #Hreach⟩
  iapply (Rounds.wp_copy_pointsTo 𝒱₀ ER (sched m ρ) (c : Thread nD τ) none (src := aM) (dst := lM) (sem := .dma cpySem) (κ := K (c, iCpy)) (r := 0) (d := ())
    (q := fullShare) (fs := xblk m ρ c) (fd := f0)
    (by rw [duties_at]; exact Finset.mem_singleton_self _) () Nc rfl (show (sched (F := F) m ρ).amount (cpyCell c) 0 () = Nc from amt_cpy)
    (by
      rw [show (sched (F := F) m ρ).payload (cpyCell c) 0 () = cpyPay m ρ c from pay_cpy m ρ c]
      simp only [Memref.view_whole, View.set_whole, View.read_whole, View.write_whole_univ]
      rw [show View.write (Elt F) (View.whole cc0_scratch0) f0 (xblk m ρ c) Finset.univ = xblk m ρ c from View.write_whole_univ ..]
      unfold cpyPay locPts argPts xblk
      exact BI.sep_mono (BI.Entails.refl _) (BI.Entails.refl _))) $$ [Htok Harg Hloc]
  · isplitr; · iexact Hinv
    isplitl [Harg]
    · simp only [Memref.view_whole, View.set_whole]; unfold argPts xblk; iexact Harg
    isplitl [Hloc]
    · simp only [Memref.view_whole, View.set_whole]; unfold locPts; iexact Hloc
    isplitl [Htok]; · iexact Htok
    iexact Hreach
  iintro Hc
  iapply (wait_cell m ρ K c iCpy (.dma cpySem) semOf_cpy (w := .waitDma2 cpySem aM lM hsrc' hdst') (n := Nc) (wpE_waitDma2_eq 𝒱₀ (c : Thread nD τ) none Set.univ)
    amt_cpy.symm (Orcv c Finset.univ)) $$ [Hc HO Hat]
  · isplitr; · iexact HR
    isplitl [Hc]; · iexact Hc
    isplitl [HO]; · iexact HO
    isplitr; · iapply (mayWait_low c (.dma cpySem) Finset.univ (le_of_eq_of_le (lv_cpy c ()) (Nat.zero_le 1))); iexact HL
    iexact Hat
  iintro ⟨HO, Hz, Hpay⟩
  ihave Hd := (Entails.of_eq (pay_cpy m ρ c)) $$ Hpay
  unfold cpyPay
  icases Hd with ⟨Hloc, Harg⟩
  iapply hk
  unfold Mid
  isplitr; · iexact HR
  isplitr; · iexact HL
  isplitl [HO]; · iexact HO
  isplitl [Has]; · iexact Has
  isplitl [H0]; · iexact H0
  isplitl [Hloc]; · iexact Hloc
  isplitl [Harg Hz]
  · isplitl [Harg] <;> iassumption
  iexact HQ

theorem hz2 : (![0, 0] : Fin 2 → Nat) = fun _ => 0 := funext fun a => by fin_cases a <;> rfl

/-- The load of the copied block. -/
theorem loc_step (K : Dev nD × Fin 22 → ℕ) (c : Dev nD) {α : Type} {Qc : α → sProp 𝕄} {hl}
    {k : (S256x1024.Idx → Elt F .f32) → Prog (TpuEff nD τ sig (Elt F) Λ₀ .tc) α}
    (f1 : S8x256x8.Idx → Elt F .bf16) {Q : sProp 𝕄}
    (hk : Mid m ρ K c f1 Q ⊢ wp frame (wpE (defs₀ (F := F)) 𝒱₀ (c : Thread nD τ) none) Set.univ (k (xblk m ρ c)) Qc) :
    Mid m ρ K c f1 Q ⊢ wp frame (wpE (defs₀ (F := F)) 𝒱₀ (c : Thread nD τ) none) Set.univ
      (.op (.load lM (Rect.unit (s := S256x1024) ![0, 0] S256x1024.size inb_S256x1024_S256x1024_0_0).toLoadRect hl) k) Qc := by
  unfold Mid at hk ⊢
  iintro ⟨HR, HL, HO, Has, H0, Hloc, Harg, HQ⟩
  unfold locPts at hk ⊢
  iapply (wp_load 𝒱₀ (c : Thread nD τ) none Set.univ (m := lM) (Finset.subset_univ _)) $$ Hloc
  iintro Hloc
  rw [show (lM : Memref sig .tc .vmem S256x1024 .f32).view.readAt (Elt F) (Rect.unit (s := S256x1024) ![0, 0] S256x1024.size inb_S256x1024_S256x1024_0_0).toLoadRect (xblk m ρ c) = xblk m ρ c
    from Memref.readAt_unit_zero (Elt F) cc0_scratch0 hz2 _ _]
  iapply hk
  isplitl [HR]; · iexact HR
  isplitl [HL]; · iexact HL
  isplitl [HO]; · iexact HO
  isplitl [Has]; · iexact Has
  isplitl [H0]; · iexact H0
  isplitl [Hloc]; · iexact Hloc
  isplitl [Harg] <;> iassumption

theorem access_set : (gM.access (rectOf 0)).set = slotSet 0 := (View.set_slice_whole cc0_scratch1 (rectOf 0)).trans (rect_set 0 (slot_inb 0))

/-- The candidates stored into slot 0 are what the finished buffer holds there. -/
theorem store_writes (c : Dev nD) (f1 : S8x256x8.Idx → Elt F .bf16) :
    ∀ i ∈ slotSet 0, ((gM.access (rectOf 0)).write (Elt F) f1 (cand (xblk m ρ c)) Finset.univ) i = gathered m ρ c i := by
  intro i hi
  rw [← access_set] at hi
  obtain ⟨y, -, rfl⟩ := Finset.mem_map.mp hi
  refine (View.write_emb_of_mem (v := gM.access (rectOf 0)) _ _ (Finset.mem_univ y)).trans ?_
  show cand (xblk m ρ c) y = gathered m ρ c ((rectOf 0).emb y)
  rw [gathered_emb, at8_zero]

/-- The store of the device's own candidates (with the load before it), and the state from which the exchange runs. -/
theorem own_step (K : Dev nD × Fin 22 → ℕ) (c : Dev nD) {α : Type} {Qc : α → sProp 𝕄} {hl hx hm}
    {k : PUnit → Prog (TpuEff nD τ sig (Elt F) Λ₀ .tc) α} (w : S1x256x8.Idx → Elt F .bf16) (hw : w = cand (xblk m ρ c))
    (f1 : S8x256x8.Idx → Elt F .bf16) {Q : sProp 𝕄}
    (hk : St m ρ K c Finset.univ Finset.univ Finset.univ Finset.univ iprop(slotPts c 0 kept (gathered m ρ c) ∗ (locPts c (xblk m ρ c) ∗ argPts m ρ c ∗ semVal (cpyCell c) 0) ∗ Q)
      ⊢ wp frame (wpE (defs₀ (F := F)) 𝒱₀ (c : Thread nD τ) none) Set.univ (k ⟨⟩) Qc) :
    Mid m ρ K c f1 Q ⊢ wp frame (wpE (defs₀ (F := F)) 𝒱₀ (c : Thread nD τ) none) Set.univ
      (.op (.load gM (rectOf 0).toLoadRect hl) fun _ => .op (.store gM (rectOf 0) w Finset.univ hx hm) k) Qc := by
  subst hw
  have hset := access_set
  have hp : ∀ j ∈ (Finset.univ : Finset (Fin 7)), iprop((((c : Thread nD τ).loc cc0_scratch1) ↦[slotSet 0]{tok j} (gathered m ρ c : Buf (Elt F) ((c : Thread nD τ).loc cc0_scratch1))) ∗ aside c j)
      ⊢ piece m ρ c Finset.univ Finset.univ Finset.univ Finset.univ j := fun j hj => by
    unfold piece aside sndPay slotPts
    simp only [if_pos hj]
    iintro ⟨Ht, Hr, Hs, Hv, Ha⟩
    isplitl [Hr]; · iexact Hr
    isplitl [Ht Hs]
    · isplitr; · iempintro
      isplitl [Ht] <;> iassumption
    isplitl [Hv]; · iexact Hv
    isplitl [Ha]; · iexact Ha
    iempintro
  unfold Mid
  iintro ⟨HR, HL, HO, Has, H0, Hloc, ⟨Harg, Hz⟩, HQ⟩
  unfold slotPts
  iapply (wp_load_rect 𝒱₀ (c : Thread nD τ) none Set.univ (m := gM) (r := rectOf 0) (S := slotSet 0) (by rw [hset])) $$ H0
  iintro H0
  iapply (wp_store 𝒱₀ (c : Thread nD τ) none Set.univ (m := gM) (r := rectOf 0) (Mk := Finset.univ) (S := slotSet 0)
    (by rw [show (gM.access (rectOf 0)).setOn Finset.univ = (gM.access (rectOf 0)).set from rfl, hset])) $$ H0
  iintro H0
  ihave H0' := (Entails.of_eq (pointsTo_congr (ℓ := (c : Thread nD τ).loc cc0_scratch1) (store_writes m ρ c f1))) $$ H0
  ihave Hsp := (Transfers.pointsTo_toks_split fullShare 7) $$ H0'
  icases Hsp with ⟨Hk, Ht⟩
  iapply hk
  unfold St
  isplitl [HR]; · iexact HR
  isplitl [HL]; · iexact HL
  isplitl [HO]; · iexact HO
  isplitl [Has Ht]
  · iapply (show iprop((bigSep Finset.univ fun j : Fin 7 => ((c : Thread nD τ).loc cc0_scratch1) ↦[slotSet 0]{tok j} (gathered m ρ c : Buf (Elt F) ((c : Thread nD τ).loc cc0_scratch1)))
        ∗ bigSep Finset.univ fun j => aside c j) ⊢ (bigSep Finset.univ fun j => piece m ρ c Finset.univ Finset.univ Finset.univ Finset.univ j : sProp 𝕄) from by
          rw [← bigSep_sep']; exact bigSep_mono hp)
    isplitl [Ht] <;> iassumption
  isplitl [Hk]; · unfold slotPts; iexact Hk
  isplitl [Hloc Harg Hz]
  · isplitl [Hloc]; · iexact Hloc
    isplitl [Harg] <;> iassumption
  iexact HQ

/-! ## The result's store, and the exit -/

/-- The store of the result (with the load before it). -/
theorem out_step (K : Dev nD × Fin 22 → ℕ) (c : Dev nD) {α : Type} {Qc : α → sProp 𝕄} {hl hx hm}
    {k : PUnit → Prog (TpuEff nD τ sig (Elt F) Λ₀ .tc) α} (w f : S256x8.Idx → Elt F .f32) {B C D E : Finset (Fin 7)} {Q Q' : sProp 𝕄}
    (hk : St m ρ K c B C D E iprop(Q ∗ Q' ∗ outPts c w) ⊢ wp frame (wpE (defs₀ (F := F)) 𝒱₀ (c : Thread nD τ) none) Set.univ (k ⟨⟩) Qc) :
    St m ρ K c B C D E iprop(Q ∗ Q' ∗ outPts c f) ⊢ wp frame (wpE (defs₀ (F := F)) 𝒱₀ (c : Thread nD τ) none) Set.univ
      (.op (.load oM (Rect.unit (s := S256x8) ![0, 0] S256x8.size inb_S256x8_S256x8_0_0).toLoadRect hl) fun _ =>
        .op (.store oM (Rect.unit (s := S256x8) ![0, 0] S256x8.size inb_S256x8_S256x8_0_0) w Finset.univ hx hm) k) Qc := by
  unfold St at hk ⊢
  iintro ⟨HR, HL, HO, Hp, HQ, HQ', Hout⟩
  unfold outPts at hk ⊢
  iapply (wp_load 𝒱₀ (c : Thread nD τ) none Set.univ (m := oM) (Finset.subset_univ _)) $$ Hout
  iintro Hout
  iapply (wp_store 𝒱₀ (c : Thread nD τ) none Set.univ (m := oM) (r := Rect.unit (s := S256x8) ![0, 0] S256x8.size inb_S256x8_S256x8_0_0) (Mk := Finset.univ) (Finset.subset_univ _)) $$ Hout
  iintro Hout
  rw [show ((oM : Memref sig .tc .vmem S256x8 .f32).access (Rect.unit (s := S256x8) ![0, 0] S256x8.size inb_S256x8_S256x8_0_0) : View sig .tc _ _ _).write (Elt F) f w Finset.univ = w
    from Memref.write_access_unit_zero_univ (Elt F) cc0_stg0_0 hz2 _ f w]
  iapply hk
  isplitl [HR]; · iexact HR
  isplitl [HL]; · iexact HL
  isplitl [HO]; · iexact HO
  isplitl [Hp]; · iexact Hp
  isplitl [HQ]; · iexact HQ
  isplitl [HQ']; · iexact HQ'
  iexact Hout

/-- Everything waited for: the counters at zero, the buffers whole again. -/
theorem leave (K : Dev nD × Fin 22 → ℕ) (c : Dev nD) {Q : sProp 𝕄} :
    St m ρ K c ∅ ∅ ∅ ∅ iprop(slotPts c 0 kept (gathered m ρ c) ∗ (locPts c (xblk m ρ c) ∗ argPts m ρ c ∗ semVal (cpyCell c) 0) ∗ Q)
      ⊢ iprop((∃ W, owes (c : Thread nD τ) 0 W) ∗ Φ₁ m ρ c ∗ Q) := by
  have hp : ∀ j ∈ (Finset.univ : Finset (Fin 7)), piece m ρ c ∅ ∅ ∅ ∅ j
      ⊢ iprop(semVal (rdyCell c j) 0 ∗ semVal (sndCell c j) 0 ∗ semVal (rcvCell c j) 0
        ∗ slotPts c j.succ fullShare (gathered m ρ c) ∗ ((c : Thread nD τ).loc cc0_scratch1) ↦[slotSet 0]{tok j} (gathered m ρ c : Buf (Elt F) ((c : Thread nD τ).loc cc0_scratch1))) := fun j _ => by
    unfold piece sndPay rcvPay
    simp only [if_neg (Finset.notMem_empty j)]
    iintro ⟨Hz, -, ⟨Hs, Hz'⟩, Ht, Hz''⟩
    isplitl [Hz]; · iexact Hz
    isplitl [Hz'']; · iexact Hz''
    isplitl [Hz']; · iexact Hz'
    isplitl [Hs]; · iexact Hs
    unfold slotPts; iexact Ht
  unfold St
  rw [Orcv_empty]
  iintro ⟨-, -, HO, Hp, Hk, ⟨Hloc, Harg, Hz⟩, HQ⟩
  ihave H := (show (bigSep Finset.univ fun j => piece m ρ c ∅ ∅ ∅ ∅ j : sProp 𝕄)
      ⊢ iprop((bigSep Finset.univ fun j => semVal (rdyCell c j) 0) ∗ (bigSep Finset.univ fun j => semVal (sndCell c j) 0) ∗ (bigSep Finset.univ fun j => semVal (rcvCell c j) 0)
        ∗ (bigSep Finset.univ fun j : Fin 7 => slotPts c j.succ fullShare (gathered m ρ c))
        ∗ bigSep Finset.univ fun j : Fin 7 => ((c : Thread nD τ).loc cc0_scratch1) ↦[slotSet 0]{tok j} (gathered m ρ c : Buf (Elt F) ((c : Thread nD τ).loc cc0_scratch1)))
      from by rw [← bigSep_sep', ← bigSep_sep', ← bigSep_sep', ← bigSep_sep']; exact bigSep_mono hp) $$ Hp
  icases H with ⟨H1, H2, H3, H4, H5⟩
  isplitl [HO]; · iexact HO
  isplitr [HQ]
  · unfold Φ₁
    isplitl [Harg]; · iexact Harg
    isplitl [H1]; · iexact H1
    isplitl [H2]; · iexact H2
    isplitl [H3]; · iexact H3
    isplitl [Hz]; · iexact Hz
    isplitl [Hloc]; · iexists _; iexact Hloc
    iexists gathered m ρ c
    rw [gPts_slots]
    isplitr [H4]
    · unfold slotPts
      iapply (Transfers.pointsTo_toks_join fullShare 7)
      isplitl [Hk] <;> iassumption
    · iexact H4
  · iexact HQ

/-! ## The body -/

theorem near_set : rect6.set ⊆ slotSet 0 ∪ Finset.univ.biUnion (gotSet {0, 1, 2, 3, 4}) := by
  intro i hi
  have h0 : 0 ≤ (i 0).val ∧ (i 0).val < 0 + 6 := (Rect.mem_set_unit.mp hi) 0
  by_cases hz : (i 0).val = 0
  · exact Finset.mem_union_left _ (mem_slotSet.mpr hz)
  · refine Finset.mem_union_right _ (Finset.mem_biUnion.mpr ⟨⟨(i 0).val - 1, by omega⟩, Finset.mem_univ _, ?_⟩)
    have hm : (⟨(i 0).val - 1, by omega⟩ : Fin 7) ∈ ({0, 1, 2, 3, 4} : Finset (Fin 7)) := by
      have : ∀ n : Fin 7, n.val < 5 → n ∈ ({0, 1, 2, 3, 4} : Finset (Fin 7)) := by decide
      exact this _ (by show (i 0).val - 1 < 5; omega)
    rw [gotSet, if_pos hm, mem_slotSet]
    show (i 0).val = (i 0).val - 1 + 1
    omega

theorem far_set (j : Fin 7) : (rectOf j.succ).set ⊆ slotSet 0 ∪ Finset.univ.biUnion (gotSet {j}) := by
  rw [rect_set]
  intro i hi
  exact Finset.mem_union_right _ (Finset.mem_biUnion.mpr ⟨j, Finset.mem_univ _, by rw [gotSet, if_pos (Finset.mem_singleton_self j)]; exact hi⟩)

set_option maxHeartbeats 4000000 in
/-- The whole body at device `c`. -/
theorem sound_body (K : Dev nD × Fin 22 → ℕ) (c : Dev nD) (f0 : S256x1024.Idx → Elt F .f32) (f1 : S8x256x8.Idx → Elt F .bf16) (fo : S256x8.Idx → Elt F .f32) :
    iprop(ghost m ρ K c ∗ (bigSep Finset.univ fun j => crd c j) ∗ (∃ W, owes (c : Thread nD τ) (O₀ c) W) ∗ gPts c f1 ∗ levAts L lv ∗ argPts m ρ c ∗ locPts c f0 ∗ outPts c fo)
      ⊢ wp frame (wpE (defs₀ (F := F)) 𝒱₀ (c : Thread nD τ) none) Set.univ
          (cc0_body (Memref.whole main_arg0) (Memref.isWhole_whole _) (Memref.whole cc0_stg0_0) (Memref.isWhole_whole _) (Memref.whole cc0_scratch0) (Memref.isWhole_whole _)
            (Memref.whole cc0_scratch1) (Memref.isWhole_whole _) cc0_scratch2 cc0_scratch3 cc0_scratch4 cc0_scratch5)
          (fun _ => iprop((∃ W, owes (c : Thread nD τ) 0 W) ∗ Φ₁ m ρ c ∗ outPts c (outAt m ρ c))) := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  refine (enter m ρ K c f1 _).trans ?_
  refine signal_step m ρ K c 0 (by decide) _ (by revert c; decide) _ rfl _ rfl ?_
  refine signal_step m ρ K c 1 (by decide) _ (by revert c; decide) _ rfl _ rfl ?_
  refine signal_step m ρ K c 2 (by decide) _ (by revert c; decide) _ rfl _ rfl ?_
  refine signal_step m ρ K c 3 (by decide) _ (by revert c; decide) _ rfl _ rfl ?_
  refine signal_step m ρ K c 4 (by decide) _ (by revert c; decide) _ rfl _ rfl ?_
  refine signal_step m ρ K c 5 (by decide) _ (by revert c; decide) _ rfl _ rfl ?_
  refine signal_step m ρ K c 6 (by decide) _ (by revert c; decide) _ rfl _ rfl ?_
  rw [show (((((((Finset.univ : Finset (Fin 7)).erase 0).erase 1).erase 2).erase 3).erase 4).erase 5).erase 6 = ∅ from by decide]
  refine copy_step m ρ K c f1 f0 _ rfl ?_
  refine loc_step m ρ K c f1 ?_
  refine own_step m ρ K c _ rfl f1 ?_
  refine ready_step m ρ K c 0 (by decide) (by decide) _ rfl _ rfl ?_
  refine send_step m ρ K c 0 (by decide) (by decide) (by decide) _ (by revert c; decide) _ _ rfl rfl _ _ rfl rfl ?_
  refine ready_step m ρ K c 2 (by decide) (by decide) _ rfl _ rfl ?_
  refine send_step m ρ K c 2 (by decide) (by decide) (by decide) _ (by revert c; decide) _ _ rfl rfl _ _ rfl rfl ?_
  refine ready_step m ρ K c 3 (by decide) (by decide) _ rfl _ rfl ?_
  refine send_step m ρ K c 3 (by decide) (by decide) (by decide) _ (by revert c; decide) _ _ rfl rfl _ _ rfl rfl ?_
  refine ready_step m ρ K c 1 (by decide) (by decide) _ rfl _ rfl ?_
  refine send_step m ρ K c 1 (by decide) (by decide) (by decide) _ (by revert c; decide) _ _ rfl rfl _ _ rfl rfl ?_
  refine ready_step m ρ K c 4 (by decide) (by decide) _ rfl _ rfl ?_
  refine send_step m ρ K c 4 (by decide) (by decide) (by decide) _ (by revert c; decide) _ _ rfl rfl _ _ rfl rfl ?_
  refine ready_step m ρ K c 6 (by decide) (by decide) _ rfl _ rfl ?_
  refine send_step m ρ K c 6 (by decide) (by decide) (by decide) _ (by revert c; decide) _ _ rfl rfl _ _ rfl rfl ?_
  refine ready_step m ρ K c 5 (by decide) (by decide) _ rfl _ rfl ?_
  refine send_step m ρ K c 5 (by decide) (by decide) (by decide) _ (by revert c; decide) _ _ rfl rfl _ _ rfl rfl ?_
  rw [show (((((((Finset.univ : Finset (Fin 7)).erase 0).erase 2).erase 3).erase 1).erase 4).erase 6).erase 5 = ∅ from by decide]
  refine recv_step m ρ K c 0 (by decide) _ rfl _ _ rfl ?_
  refine recv_step m ρ K c 1 (by decide) _ rfl _ _ rfl ?_
  refine recv_step m ρ K c 2 (by decide) _ rfl _ _ rfl ?_
  refine recv_step m ρ K c 3 (by decide) _ rfl _ _ rfl ?_
  refine recv_step m ρ K c 4 (by decide) _ rfl _ _ rfl ?_
  refine load_step m ρ K c rect6 {0, 1, 2, 3, 4} (by decide) near_set ?_
  refine recv_step m ρ K c 6 (by decide) _ rfl _ _ rfl ?_
  refine recv_step m ρ K c 5 (by decide) _ rfl _ _ rfl ?_
  refine load_step m ρ K c (rectOf 6) {5} (by decide) (far_set 5) ?_
  refine load_step m ρ K c (rectOf 7) {6} (by decide) (far_set 6) ?_
  refine out_step m ρ K c _ fo ?_
  refine sent_step m ρ K c 0 (by decide) _ rfl _ _ rfl ?_
  refine sent_step m ρ K c 2 (by decide) _ rfl _ _ rfl ?_
  refine sent_step m ρ K c 3 (by decide) _ rfl _ _ rfl ?_
  refine sent_step m ρ K c 1 (by decide) _ rfl _ _ rfl ?_
  refine sent_step m ρ K c 4 (by decide) _ rfl _ _ rfl ?_
  refine sent_step m ρ K c 6 (by decide) _ rfl _ _ rfl ?_
  refine sent_step m ρ K c 5 (by decide) _ rfl _ _ rfl ?_
  rw [show (((((((Finset.univ : Finset (Fin 7)).erase 0).erase 1).erase 2).erase 3).erase 4).erase 6).erase 5 = ∅ from by decide,
    show (((((((Finset.univ : Finset (Fin 7)).erase 0).erase 2).erase 3).erase 1).erase 4).erase 6).erase 5 = ∅ from by decide]
  rw [wp_ret]
  iintro H
  imodintro
  iapply (leave m ρ K c)
  iexact H

end Cert.TopK

end
-- ==== Proof.Launch.lean ====
/-
  The launch: from any memory with every counter at zero, each device's ghost state is minted, the tokens are dealt to
  the peers that pay them, and the body's theorem gives the run of @main on the whole mesh.
-/
module

public import proofs.«01_k».proof.Proof.Body
public import Idealize.ShloMosaic.Lib.Pipeline.CollectiveSegs

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A staging buffer at the contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem staged_whole (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- Before the one grid point, -/
def pointPre (c : Dev nD) : sProp 𝕄 :=
  iprop(Φ₀ m ρ c ∗ (dats m ρ 0 c).owesAt () t0_0.castSucc ∗ ∃ d, staged c cc0_stg0_0 ((dats m ρ 0 c).before (0 : Fin 1) t0_0 d))
/-- and after it. -/
def pointPost (c : Dev nD) : sProp 𝕄 :=
  iprop(Φ₁ m ρ c ∗ (dats m ρ 0 c).owesAt () t0_0.succ ∗ staged c cc0_stg0_0 (outAt m ρ c))

set_option maxRecDepth 4000 in
/-- The body's theorem in the launch theorem's form. -/
theorem body_obligation (c : Dev nD) : BodyObligation (dats (F := F) m ρ 0 c) (defs₀ (F := F)) 𝒱₀ () Set.univ := fun t => by
  rw [fin_N0 t]
  rw [bigSep_W0, bigSep_W0]
  simp only [staged_whole]
  show pointPre m ρ c ⊢ wp frame (wpE (defs₀ (F := F)) 𝒱₀ (c : Thread nD τ) none) Set.univ
      (cc0_body (Memref.whole main_arg0) (Memref.isWhole_whole _) (Memref.whole cc0_stg0_0) (Memref.isWhole_whole _) (Memref.whole cc0_scratch0) (Memref.isWhole_whole _)
        (Memref.whole cc0_scratch1) (Memref.isWhole_whole _) cc0_scratch2 cc0_scratch3 cc0_scratch4 cc0_scratch5)
      (fun _ => pointPost m ρ c)
  have hpost : ∀ _ : PUnit, iprop((∃ W, owes (c : Thread nD τ) 0 W) ∗ Φ₁ m ρ c ∗ outPts c (outAt m ρ c)) ⊢ pointPost m ρ c := fun _ => by
    unfold pointPost outPts Dat.owesAt Pipeline.owesWithin
    rw [show (dats m ρ 0 c).owed t0_0.succ = 0 from rfl]
    iintro ⟨⟨%W, HO⟩, HΦ, Ho⟩
    isplitl [HΦ]; · iexact HΦ
    isplitl [HO]
    · iexists W
      isplitr; · ipureintro; exact fun _ _ => Or.inl trivial
      iexact HO
    iexists _; isplitr; · (ipureintro; rfl)
    iexact Ho
  refine BIBase.Entails.trans ?_ (wp_mono frame (wpE (defs₀ (F := F)) 𝒱₀ (c : Thread nD τ) none) Set.univ hpost)
  unfold pointPre Φ₀ start
  unfold Dat.owesAt Pipeline.owesWithin
  iintro ⟨⟨⟨⟨%K, Hg⟩, Hcr, Hlev, Harg⟩, ⟨%f0, Hl⟩, ⟨%f1, Hgb⟩⟩, ⟨%W, -, HO⟩, ⟨%d, %fo, -, Hout⟩⟩
  iapply (sound_body m ρ K c f0 f1 fo)
  isplitl [Hg]; · iexact Hg
  isplitl [Hcr]; · iexact Hcr
  isplitl [HO]; · iexists W; iexact HO
  isplitl [Hgb]; · iexact Hgb
  isplitl [Hlev]; · iexact Hlev
  isplitl [Harg]; · iexact Harg
  isplitl [Hl]; · iexact Hl
  unfold outPts
  iexact Hout

/-! ## Cells in groups -/

/-- The kernel's own semaphores: all but the barrier. -/
def osem (k : Fin 21) : SemLoc sig := semOf k.succ

theorem ownSemFacts : Pipeline.OwnSemFacts cfg0.spec osem := by decide

theorem share_eq (c : Dev nD) (w : Fin cfg0.W) : (dats m ρ 0 c).share w = fullShare := by unfold Dat.share; split <;> rfl

/-- A family over a device's 22 cells, by kind. -/
theorem by_kind (Φ : SemLoc sig → sProp 𝕄) :
    (bigSep Finset.univ fun k : Fin 22 => Φ (semOf k))
      = iprop((bigSep Finset.univ fun j => Φ (.reg (rdySem j))) ∗ (bigSep Finset.univ fun j => Φ (.dma (sndSem j)))
        ∗ (bigSep Finset.univ fun j => Φ (.dma (rcvSem j))) ∗ Φ (.dma cpySem)) := by
  have hu : (Finset.univ : Finset (Fin 22)) = Finset.univ.map ⟨iRdy, by decide⟩ ∪ (Finset.univ.map ⟨iSnd, by decide⟩
      ∪ (Finset.univ.map ⟨iRcv, by decide⟩ ∪ {iCpy})) := by decide
  rw [hu, bigSep_union (by decide), bigSep_union (by decide), bigSep_union (by decide), bigSep_map, bigSep_map, bigSep_map, bigSep_singleton, semOf_cpy]
  simp only [Function.Embedding.coeFn_mk, semOf_rdy, semOf_snd, semOf_rcv]
  rfl

/-- The barrier apart from the others. -/
theorem barrier_apart (Φ : SemLoc sig → sProp 𝕄) :
    (bigSep Finset.univ fun k : Fin 22 => Φ (semOf k)) = iprop(Φ (semOf 0) ∗ bigSep Finset.univ fun k : Fin 21 => Φ (osem k)) := by
  have h : (Finset.univ : Finset (Fin 22)).erase 0 = Finset.univ.map ⟨Fin.succ, Fin.succ_injective _⟩ := by decide
  rw [bigSep_one (Finset.mem_univ 0) fun k : Fin 22 => Φ (semOf k), h, bigSep_map]
  rfl

theorem kcell_injective : Function.Injective (kcell : Dev nD × Fin 22 → GSem nD τ sig) := by
  rintro ⟨c, k⟩ ⟨c', k'⟩ h
  have h1 : c = c' := congrArg (fun g : GSem nD τ sig => g.1.1) h
  have h2 : semOf k = semOf k' := congrArg Prod.snd h
  rw [h1, semOf_injective h2]

theorem tokOf_injective : Function.Injective (fun ck : Dev nD × Fin 22 => ((kcell ck, 0, ()) : GSem nD τ sig × ℕ × Unit)) :=
  fun a b h => kcell_injective (congrArg Prod.fst h)

/-- Every cell of the mesh, and its one duty. -/
def allCells : Finset (GSem nD τ sig) := Finset.univ.map ⟨kcell, kcell_injective⟩
@[inherit_doc allCells] def allToks : Finset (GSem nD τ sig × ℕ × Unit) := Finset.univ.map ⟨_, tokOf_injective⟩

/-- The element the launch starts from. -/
def u₀ : UU := (initOf (Pipeline.cells cfgs cellOf_inj) (Pipeline.launchToks cfgs cellOf_inj), initOf allCells allToks)

/-! ## Minting and dealing -/

/-- The duties of device `c`'s own cells. -/
def toks (c : Dev nD) : sProp 𝕄 := bigSep Finset.univ fun k : Fin 22 => dutyTok ER (kcell (c, k)) 0 ()
/-- The positions at device `c`'s own cells. -/
def poss (c : Dev nD) : sProp 𝕄 := bigSep Finset.univ fun k : Fin 22 => atPos ER (kcell (c, k)) 0 ∅ 0

/-- What is minted for device `c`, -/
def G (c : Dev nD) : sProp 𝕄 :=
  iprop((bigSep Finset.univ fun k : Fin 22 => roundState ER (sched m ρ) (kcell (c, k)) 0)
    ∗ poss c ∗ (bigSep Finset.univ fun k : Fin 22 => reached ER (kcell (c, k)) 0) ∗ toks c)
/-- and what it has once the cells' invariants are made and the duties dealt. -/
def G' (c : Dev nD) : sProp 𝕄 := iprop(∃ K, ghost m ρ K c)

theorem mint : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun k : Fin 22 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (sched m ρ) allCells allToks) $$ H with ⟨Hs, Hr, Ha, Ht⟩
  imodintro
  ihave Hs := (Entails.of_eq (hX fun g => roundState ER (sched m ρ) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G poss; simp only [bigSep_sep']
  isplitl [Hs]; · iexact Hs
  isplitl [Ha]; · iexact Ha
  isplitl [Hr] <;> iassumption

theorem unscopedSems0_eq (c : Dev nD) : (unscopedSems0 c : sProp 𝕄) = semVal (kcell (c, 0)) 0 := by
  unfold unscopedSems0; rw [bigSep_eq_bigSepL_of_eq [semOf 0] (by decide) (by decide)]; rfl

/-- All of a device's counters at zero. -/
theorem sems0_eq (c : Dev nD) :
    (bigSep Finset.univ fun k : Fin 22 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq]
  exact barrier_apart fun sm => semVal ((c : Thread nD τ), sm) 0

/-- A device's invariants, from its counters. -/
theorem make_invs (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ poss c ∗ (bigSep Finset.univ fun k : Fin 22 => reached ER (kcell (c, k)) 0) ∗ toks c) := by
  unfold G
  iintro ⟨Ho, Hu, Hs, Hrest⟩
  ihave Hv := (Entails.of_eq (sems0_eq (F := F) c).symm) $$ [Ho Hu]
  · isplitl [Hu] <;> iassumption
  imod (show iprop((bigSep Finset.univ fun k : Fin 22 => semVal (kcell (c, k)) 0) ∗ bigSep Finset.univ fun k : Fin 22 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hs] with Hi
  · isplitl [Hv] <;> iassumption
  imodintro
  isplitl [Hi] <;> iassumption

/-- What a device holds for itself: the duties it pays and its positions. -/
def own7 (c : Dev nD) : sProp 𝕄 := iprop((bigSep Finset.univ fun j => lin c j) ∗ cpyRes c)

/-- A family over devices and offsets, each member moved to the peer. -/
theorem to_peer (Φ : Dev nD → Fin 7 → sProp 𝕄) :
    (bigSep Finset.univ fun c : Dev nD => bigSep Finset.univ fun j : Fin 7 => Φ c j) = bigSep Finset.univ fun c : Dev nD => bigSep Finset.univ fun j : Fin 7 => Φ (xo c j) j := by
  rw [bigSep_univ_comm, bigSep_univ_comm fun (c : Dev nD) (j : Fin 7) => Φ (xo c j) j]
  exact bigSep_congr fun j _ => bigSep_univ_equiv (swapAt j) fun c => Φ c j

/-- The ready and the receive duties dealt to the peers, the others kept. -/
theorem deal :
    iprop((bigSep Finset.univ fun c : Dev nD => (poss c : sProp 𝕄)) ∗ bigSep Finset.univ fun c : Dev nD => (toks c : sProp 𝕄))
      ⊢ bigSep Finset.univ fun c : Dev nD => own7 (F := F) c := by
  have hp : (fun c : Dev nD => (poss c : sProp 𝕄)) = fun c => iprop((bigSep Finset.univ fun j => atPos ER (rdyCell c j) 0 ∅ 0) ∗ (bigSep Finset.univ fun j => atPos ER (sndCell c j) 0 ∅ 0)
      ∗ (bigSep Finset.univ fun j => atPos ER (rcvCell c j) 0 ∅ 0) ∗ atPos ER (cpyCell c) 0 ∅ 0) :=
    funext fun c => by_kind fun sm => atPos ER ((c : Thread nD τ), sm) 0 ∅ 0
  have ht : (fun c : Dev nD => (toks c : sProp 𝕄)) = fun c => iprop((bigSep Finset.univ fun j => dutyTok ER (rdyCell c j) 0 ()) ∗ (bigSep Finset.univ fun j => dutyTok ER (sndCell c j) 0 ())
      ∗ (bigSep Finset.univ fun j => dutyTok ER (rcvCell c j) 0 ()) ∗ dutyTok ER (cpyCell c) 0 ()) :=
    funext fun c => by_kind fun sm => dutyTok ER ((c : Thread nD τ), sm) 0 ()
  rw [hp, ht]
  unfold own7 lin sndRes cpyRes
  simp only [bigSep_sep']
  rw [to_peer fun c j => dutyTok ER (rdyCell c j) 0 (), to_peer fun c j => dutyTok ER (rcvCell c j) 0 ()]
  iintro ⟨⟨H1, H2, H3, H4⟩, H5, H6, H7, H8⟩
  isplitr [H4 H8]
  · isplitl [H5]; · iexact H5
    isplitl [H1]; · iexact H1
    isplitl [H6 H7]
    · isplitl [H6] <;> iassumption
    isplitl [H3] <;> iassumption
  isplitl [H8] <;> iassumption

theorem with_persistent {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (sched m ρ) κ (kcell (c, k))))
          ∗ poss c ∗ (bigSep Finset.univ fun k : Fin 22 => reached ER (kcell (c, k)) 0) ∗ toks c) : sProp 𝕄)
      ⊢ bigSep Finset.univ (G' m ρ) := by
  rw [bigSep_sep', bigSep_sep', bigSep_sep', ← bigSep_univ_prod (fun ck : Dev nD × Fin 22 => iprop(∃ κ : ℕ, cellInv ER (sched m ρ) κ (kcell ck))),
    ← bigSep_univ_prod (fun ck : Dev nD × Fin 22 => (reached ER (kcell ck) 0 : sProp 𝕄))]
  iintro ⟨HI, Hp, #HR, Ht⟩
  ihave HK := (BI.bigSep_exists_pi Finset.univ (fun (ck : Dev nD × Fin 22) (κ : ℕ) => (cellInv ER (sched m ρ) κ (kcell ck) : sProp 𝕄))) $$ HI
  icases HK with ⟨%K, #HI⟩
  iapply (with_persistent (R := records m ρ K) (Φ := fun c => own7 c) fun c => show iprop(records m ρ K ∗ own7 c) ⊢ G' m ρ c from by
    unfold own7 G' ghost
    iintro ⟨HR, Hl, Hc⟩
    iexists K
    isplitl [HR]; · iexact HR
    isplitl [Hl] <;> iassumption)
  isplitr
  · unfold records; isplitl; · iexact HI
    iexact HR
  · iapply (deal (F := F))
    isplitl [Hp] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => make_invs m ρ c).trans (bigSep_fupd _ _)).trans (BI.fupd_mono (regroup m ρ))

/-! ## The units owed at launch -/

theorem rdySem_injective : Function.Injective rdySem := by decide
theorem rcvSem_injective : Function.Injective rcvSem := by decide

theorem rdy_inj {c d : Dev nD} {i j : Fin 7} (h : rdyCell c i = rdyCell d j) : c = d ∧ i = j :=
  ⟨congrArg (fun g : GSem nD τ sig => g.1.1) h, rdySem_injective (SemLoc.reg.inj (congrArg Prod.snd h))⟩
theorem rcv_inj {c d : Dev nD} {i j : Fin 7} (h : rcvCell c i = rcvCell d j) : c = d ∧ i = j :=
  ⟨congrArg (fun g : GSem nD τ sig => g.1.1) h, rcvSem_injective (SemLoc.dma.inj (congrArg Prod.snd h))⟩

theorem rdy_ne_rcv (c d : Dev nD) (i j : Fin 7) : rdyCell c i ≠ rcvCell d j := fun h => by
  have h' : (SemLoc.reg (rdySem i) : SemLoc sig) = .dma (rcvSem j) := congrArg Prod.snd h
  cases h'

theorem owed_rdy (d c : Dev nD) (j : Fin 7) : O₀ d (rdyCell c j) () = if d = xo c j then 1 else 0 := by
  unfold O₀ Orcv Ordy
  rw [Pi.add_apply, Finsupp.add_apply, Finset.sum_apply, Finsupp.finset_sum_apply, Finset.sum_apply, Finsupp.finset_sum_apply,
    Finset.sum_eq_zero fun i _ => by rw [tallyAt_apply]; exact if_neg fun h => rdy_ne_rcv _ _ _ _ h.1, Nat.zero_add,
    Finset.sum_eq_single j (fun i _ hi => by rw [tallyAt_apply]; exact if_neg fun h => hi (rdy_inj h.1).2.symm) fun h => absurd (Finset.mem_univ _) h,
    tallyAt_apply]
  by_cases h : d = xo c j
  · subst h; rw [if_pos ⟨by rw [xo_xo], rfl⟩, if_pos rfl]
  · rw [if_neg fun h' => h (by rw [(rdy_inj h'.1).1, xo_xo]), if_neg h]

theorem owed_rcv (d c : Dev nD) (j : Fin 7) : O₀ d (rcvCell c j) () = if d = xo c j then N else 0 := by
  unfold O₀ Orcv Ordy
  rw [Pi.add_apply, Finsupp.add_apply, Finset.sum_apply, Finsupp.finset_sum_apply, Finset.sum_apply, Finsupp.finset_sum_apply, Nat.add_comm,
    Finset.sum_eq_zero fun i _ => by rw [tallyAt_apply]; exact if_neg fun h => rdy_ne_rcv _ _ _ _ h.1.symm, Nat.zero_add,
    Finset.sum_eq_single j (fun i _ hi => by rw [tallyAt_apply]; exact if_neg fun h => hi (rcv_inj h.1).2.symm) fun h => absurd (Finset.mem_univ _) h,
    tallyAt_apply]
  by_cases h : d = xo c j
  · subst h; rw [if_pos ⟨by rw [xo_xo], rfl⟩, if_pos rfl]
  · rw [if_neg fun h' => h (by rw [(rcv_inj h'.1).1, xo_xo]), if_neg h]

theorem launch_rdy (c : Dev nD) (j : Fin 7) :
    tallyOn (rdyCell c j) (launchCredit (Pipeline.owing O₀) 0 (rdyCell c j)) = (tallyAt (rdyCell c j) () 1 : CellTallies nD τ sig Unit) := by
  unfold tallyAt; refine congrArg _ (Finsupp.ext fun u => ?_); cases u
  rw [Pipeline.launchCredit_owing, Finsupp.single_eq_same, Finset.sum_congr rfl fun d _ => owed_rdy d c j, Finset.sum_ite_eq' Finset.univ (xo c j) fun _ => 1,
    if_pos (Finset.mem_univ _)]
theorem launch_rcv (c : Dev nD) (j : Fin 7) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (xo c j) fun _ => N,
    if_pos (Finset.mem_univ _)]

theorem creds (c : Dev nD) : (Pipeline.launchCred O₀ c : sProp 𝕄) ⊢ bigSep Finset.univ fun j => crd (F := F) c j := by
  let Φ : SemLoc sig → sProp 𝕄 := fun sm => cred (tallyOn ((c.tc : Thread nD τ), sm) (launchCredit (Pipeline.owing O₀) 0 ((c.tc : Thread nD τ), sm)))
  have hsub : (bigSep Finset.univ Φ) ⊢ bigSep (Finset.univ.map ⟨semOf, semOf_injective⟩) Φ := bigSep_subset (Finset.subset_univ _)
  rw [bigSep_map] at hsub
  have h : (Pipeline.launchCred O₀ c : sProp 𝕄) ⊢ bigSep Finset.univ fun k : Fin 22 => Φ (semOf k) := hsub
  rw [by_kind] at h
  refine h.trans ?_
  unfold crd
  rw [bigSep_sep']
  have h1 : ∀ j, Φ (.reg (rdySem j)) = cred (tallyAt (rdyCell c j) () 1) := fun j => congrArg cred (launch_rdy c j)
  have h2 : ∀ j, Φ (.dma (rcvSem j)) = cred (tallyAt (rcvCell c j) () N) := fun j => congrArg cred (launch_rcv c j)
  simp only [h1, h2]
  iintro ⟨H1, -, H2, -⟩
  isplitl [H1] <;> iassumption

/-! ## Into the region and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Ha, Hl, Hc, -, HG⟩
  ihave Hc := (creds (F := F) c) $$ Hc
  imodintro
  unfold start G' argPts
  isplitl
  · isplitl [HG]; · iexact HG
    isplitl [Hc]; · iexact Hc
    isplitl [Hl]; · iexact Hl
    iexact Ha
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ locPts gPts
  iintro ⟨Hs, -, Hl, Hg⟩
  isplitl [Hs]; · iexact Hs
  isplitl [Hl] <;> iassumption

theorem phi1_exit (c : Dev nD) :
    (dats m ρ 0 c).Φ (Fin.last cfg0.N) ⊢ iprop((unscopedSems0 c ∗ argPts m ρ c) ∗ Pipeline.ownSems0 osem c ∗ Pipeline.scopedRest cfg0.spec c) := by
  rw [show (dats m ρ 0 c).Φ (Fin.last cfg0.N) = Φ₁ m ρ c from rfl, scopedRest0_eq]
  unfold Φ₁ locPts gPts
  iintro ⟨Ha, H1, H2, H3, H4, Hl, Hg⟩
  ihave Hv := (Entails.of_eq ((by_kind fun sm => (semVal ((c : Thread nD τ), sm) 0 : sProp 𝕄)).symm.trans (sems0_eq (F := F) c))) $$ [H1 H2 H3 H4]
  · isplitl [H1]; · iexact H1
    isplitl [H2]; · iexact H2
    isplitl [H3] <;> iassumption
  icases Hv with ⟨Hu, Ho⟩
  isplitl [Hu Ha]
  · isplitl [Hu] <;> iassumption
  isplitl [Ho]; · iexact Ho
  isplitl [Hl] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; revert c; decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The region writes the one block of its result, all of it: the result array ends at what the body computes. -/
theorem finalA_out (c : Dev nD) : finalA m ρ c (0 : Fin 1) = outAt m ρ c := by
  have h : (win0_0.blk (0 : Fin 1)).view.read (Elt F) (finalA m ρ c (0 : Fin 1)) = outAt m ρ c := by
    unfold finalA
    rw [show cfg0.N = ((0 : Fin 1) : Fin cfg0.N).val + 1 from rfl, (dats m ρ 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans h

/-- What the unscoped part of a device tells of the final memory. -/
theorem exit_reads (c : Dev nD) (s' : Phys nD τ sig (Elt F)) :
    iprop((unscopedSems0 c ∗ argPts m ρ c) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') : sProp 𝕄) := by
  iintro ⟨⟨Hu, Ha⟩, -, HSI⟩
  ihave H := (show iprop(argPts m ρ c ∗ SI s') ⊢ (iprop(⌜s'.mem.mem ((c : Thread nD τ).loc main_arg0) = m ((c : Thread nD τ).loc main_arg0)⌝ ∗ SI s') : sProp 𝕄) from by
    have h := pointsTo_read_all (Ix := Unit) (Name := ℕ) (U := UU) (Lvl := ℕ) ({()} : Finset Unit) (fun _ => (c : Thread nD τ).loc main_arg0) (fun _ => m ((c : Thread nD τ).loc main_arg0)) s'
    rw [bigSep_singleton] at h
    refine h.trans (sep_mono_left (BI.pure_mono fun h => h () (Finset.mem_singleton_self _)))) $$ [Ha HSI]
  · isplitl [Ha] <;> iassumption
  icases H with ⟨%ha, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, ha⟩
  iexact HSI

set_option maxRecDepth 8000 in
/-- For any float values and from any memory with zero counters: every weakly fair execution of @main on the eight
    devices terminates, and in every final state each device's result holds what the body computes, the argument is as it
    was and every counter is back at zero. -/
theorem run_main : θ_run defs (onTc (τ := τ) (main (F := F))) (s₀ m ρ) (fun r =>
    (∀ c : Dev nD, r.2.mem ((c.tc : Thread nD τ).loc main_v1) = outAt m ρ c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => iprop(unscopedSems0 c ∗ argPts m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := exit_reads m ρ)
    (hQ := fun _ h hs => ⟨fun c => ⟨((h c).1 (0 : Fin 1)).trans (finalA_out m ρ c), (h c).2.2.2⟩, sem_eq_zero hs fun c => (h c).2.2.1⟩)

end Cert.TopK

end
-- ==== Proof.Frames.lean ====
/-
  The frames: each program runs, ends with its argument as it was and with every counter at zero.
-/
module

public import proofs.«01_k».proof.Proof.Launch
public import proofs.«01_k».proof.Proof.Gen.Kernel
public import proofs.«01_k».proof.Proof.Gen.ReferenceIdeal.Run

@[expose] public section

noncomputable section

namespace Cert.TopK

open Idealize.ShloMosaic Idealize.ShloMosaic.TcCoe Idealize.SL.Sem

/-- The run, read at the argument and the counters. -/
theorem kept_main {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run_main (F := F) m ρ)

/-- The two programs' body tables are one: each label of one is the same label of the other. -/
theorem body_table {F : FTy → Type} [FloatOps F] : Cert.Kernel.defs₀ (F := F) = Cert.KernelIdeal.defs₀ (F := F) := by
  unfold Cert.Kernel.defs₀ Cert.KernelIdeal.defs₀
  refine congrArg Defs.onTc ?_
  funext l x
  obtain ⟨_ | n, h⟩ := l
  · rfl
  · exact absurd h (by omega)
@[inherit_doc body_table]
theorem whole_table {F : FTy → Type} [FloatOps F] : Cert.Kernel.defs (F := F) = Cert.KernelIdeal.defs (F := F) := by
  unfold Cert.Kernel.defs Cert.KernelIdeal.defs
  rw [body_table]
  rfl

/-- The kernel at the machine's floats: the two programs have one text, so the run for any float values is its run. -/
theorem frame_kernel : Cert.quiescent_Kernel := fun m ρ _ => by
  rw [whole_table]
  exact kept_main (F := Bits) m ρ

/-- The kernel at the ideal floats. -/
theorem frame_ideal : Cert.quiescent_KernelIdeal := fun m ρ _ => kept_main (F := Ideal) m ρ

/-- The reference: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Distinct.lean ====
/-
  The distinct values of a set of extended reals in falling order: the greatest, the greatest below it,
  and so on; and what a merge in two stages keeps of them. Nothing here knows of arrays or devices.
-/
module

public import Mathlib.Data.EReal.Basic
public import Mathlib.Data.Set.Finite.Basic
public import Mathlib.Order.ConditionallyCompleteLattice.Finset

@[expose] public section

noncomputable section

namespace Cert.TopK

/-- The `j`-th greatest distinct value of `S`, counted from zero: the least upper bound of `S`, and after it
    the least upper bound of what lies strictly below the value before. Where `S` has no more values this
    is `⊥`, which stands for −∞. -/
def distinct (S : Set EReal) : Nat → EReal
  | 0 => sSup S
  | j + 1 => sSup {s | s ∈ S ∧ s < distinct S j}

/-- Each value is at most the one before it. -/
theorem distinct_succ_le (S : Set EReal) (j : Nat) : distinct S (j + 1) ≤ distinct S j :=
  sSup_le fun _ hs => hs.2.le

/-- Of a finite set, each value is `⊥` or an element of the set. -/
theorem distinct_mem {S : Set EReal} (hS : S.Finite) (j : Nat) : distinct S j = ⊥ ∨ distinct S j ∈ S := by
  have key : ∀ T : Set EReal, T ⊆ S → sSup T = ⊥ ∨ sSup T ∈ T := fun T hT => by
    rcases T.eq_empty_or_nonempty with rfl | hne
    · exact .inl sSup_empty
    · exact .inr (hne.csSup_mem (hS.subset hT))
  cases j with
  | zero => exact key S subset_rfl
  | succ j => exact (key {s | s ∈ S ∧ s < distinct S j} fun _ h => h.1).imp_right fun h => h.1

/-- Of a finite set, a value that is not `⊥` lies strictly below the one before it. -/
theorem distinct_succ_lt {S : Set EReal} (hS : S.Finite) {j : Nat} (h : distinct S (j + 1) ≠ ⊥) :
    distinct S (j + 1) < distinct S j := by
  rcases Set.eq_empty_or_nonempty {s | s ∈ S ∧ s < distinct S j} with he | hne
  · exact absurd (by rw [distinct, he, sSup_empty]) h
  · exact (hne.csSup_mem (hS.subset fun _ h => h.1)).2

/-- A set whose values are among those of `S`, but for `⊥`, has nowhere greater distinct values. -/
theorem distinct_mono {A S : Set EReal} (h : ∀ a ∈ A, a = ⊥ ∨ a ∈ S) : ∀ j, distinct A j ≤ distinct S j
  | 0 => sSup_le fun a ha => (h a ha).elim (fun e => e ▸ bot_le) fun hs => le_sSup hs
  | j + 1 => sSup_le fun a ha => (h a ha.1).elim (fun e => e ▸ bot_le) fun hs =>
      le_sSup ⟨hs, ha.2.trans_le (distinct_mono h j)⟩

/-- What the merges rest on: the `j`-th distinct value of `S`, if it occurs in a part `A` of `S`, is among the
    first `j + 1` distinct values of that part. -/
theorem distinct_among {A S : Set EReal} (h : ∀ a ∈ A, a = ⊥ ∨ a ∈ S) {j : Nat} (hj : distinct S j ∈ A) :
    ∃ i, i ≤ j ∧ distinct A i = distinct S j := by
  by_contra hc
  have above : ∀ i, i ≤ j → distinct S j < distinct A i := by
    intro i
    induction i with
    | zero => exact fun hi => lt_of_le_of_ne (le_sSup hj) fun e => hc ⟨0, hi, e.symm⟩
    | succ i ih => exact fun hi => lt_of_le_of_ne (le_sSup ⟨hj, ih (Nat.le_of_succ_le hi)⟩) fun e => hc ⟨i + 1, hi, e.symm⟩
  exact absurd (above j le_rfl) (not_lt.mpr (distinct_mono h j))

/-- A part of `S` that holds the first `k` distinct values of `S` has the same first `k` distinct values. -/
theorem distinct_eq_of_holds {T S : Set EReal} (hS : S.Finite) (h : ∀ t ∈ T, t = ⊥ ∨ t ∈ S) {k : Nat}
    (hk : ∀ j, j < k → distinct S j = ⊥ ∨ distinct S j ∈ T) : ∀ j, j < k → distinct T j = distinct S j
  | 0, h0 => le_antisymm (distinct_mono h 0) ((hk 0 h0).elim (fun e => by rw [e]; exact bot_le) fun m => le_sSup m)
  | j + 1, hj => by
    refine le_antisymm (distinct_mono h (j + 1)) ?_
    rcases eq_or_ne (distinct S (j + 1)) ⊥ with e | ne
    · rw [e]; exact bot_le
    · exact le_sSup ⟨(hk (j + 1) hj).resolve_left ne, by
        rw [distinct_eq_of_holds hS h hk j (Nat.lt_of_succ_lt hj)]; exact distinct_succ_lt hS ne⟩

/-- The values of parts, taken for the first `k` distinct values of each, keep the first `k` of the whole:
    `S` is covered by the parts `A o`, and `T` holds, but for `⊥`, exactly the first `k` values of each. -/
theorem distinct_merge {ι : Type} {S T : Set EReal} (A : ι → Set EReal) (hS : S.Finite) (hA : ∀ o, (A o).Finite) {k : Nat}
    (hsub : ∀ o, ∀ a ∈ A o, a = ⊥ ∨ a ∈ S) (hcov : ∀ s ∈ S, s = ⊥ ∨ ∃ o, s ∈ A o)
    (hT : ∀ t ∈ T, t = ⊥ ∨ ∃ o i, t = distinct (A o) i) (hheld : ∀ o i, i < k → distinct (A o) i = ⊥ ∨ distinct (A o) i ∈ T)
    (j : Nat) (hj : j < k) : distinct T j = distinct S j := by
  refine distinct_eq_of_holds hS (fun t ht => ?_) (fun j hj => ?_) j hj
  · rcases hT t ht with e | ⟨o, i, e⟩
    · exact .inl e
    · rw [e]
      exact (distinct_mem (hA o) i).elim .inl fun m => hsub o _ m
  · rcases distinct_mem hS j with e | m
    · exact .inl e
    · rcases hcov _ m with e | ⟨o, ho⟩
      · exact .inl e
      · obtain ⟨i, hi, e⟩ := distinct_among (hsub o) ho
        rw [← e]
        exact hheld o i (hi.trans_lt hj)

/-- Of values in falling order the `j`-th distinct one is at most the `j`-th. -/
theorem distinct_range_le {n : Nat} (s : Fin n → EReal) (hs : ∀ a b : Fin n, a ≤ b → s b ≤ s a) :
    ∀ (j : Nat) (hj : j < n), distinct (Set.range s) j ≤ s ⟨j, hj⟩
  | 0, _ => sSup_le fun _ ⟨_, e⟩ => e ▸ hs _ _ (Nat.zero_le _)
  | j + 1, hj => by
    refine sSup_le ?_
    rintro _ ⟨⟨a, rfl⟩, hlt⟩
    refine hs _ _ ?_
    have h := hlt.trans_le (distinct_range_le s hs j (Nat.lt_of_succ_lt hj))
    by_contra hc
    exact absurd h (not_lt.mpr (hs _ _ (Nat.lt_succ_iff.mp (not_le.mp hc))))

/-- Values in falling order, each one from the second to the `j`-th either below the one before it or `⊥`, are the
    distinct values up to there. -/
theorem distinct_range_of_falling {n : Nat} (s : Fin n → EReal) (hs : ∀ a b : Fin n, a ≤ b → s b ≤ s a) :
    ∀ (j : Nat) (hj : j < n), (∀ i (hi : i < j), s ⟨i + 1, by omega⟩ < s ⟨i, by omega⟩ ∨ s ⟨i + 1, by omega⟩ = ⊥) →
      distinct (Set.range s) j = s ⟨j, hj⟩
  | 0, hj, _ => le_antisymm (sSup_le fun _ ⟨a, e⟩ => e ▸ hs _ _ (Nat.zero_le _)) (le_sSup ⟨_, rfl⟩)
  | j + 1, hj, h => by
    have ih := distinct_range_of_falling s hs j (Nat.lt_of_succ_lt hj) fun i hi => h i (Nat.lt_succ_of_lt hi)
    refine le_antisymm (sSup_le ?_) ?_
    · rintro _ ⟨⟨a, rfl⟩, hlt⟩
      refine hs _ _ ?_
      rw [ih] at hlt
      by_contra hc
      exact absurd hlt (not_lt.mpr (hs _ _ (Nat.lt_succ_iff.mp (not_le.mp hc))))
    · rcases h j (Nat.lt_succ_self j) with hlt | hb
      · exact le_sSup ⟨⟨_, rfl⟩, by rw [ih]; exact hlt⟩
      · rw [hb]; exact bot_le

/-- In particular where each is below the one before it. -/
theorem distinct_range_of_strict {n : Nat} (s : Fin n → EReal) (hs : ∀ a b : Fin n, a ≤ b → s b ≤ s a) (j : Nat) (hj : j < n)
    (h : ∀ i (hi : i < j), s ⟨i + 1, by omega⟩ < s ⟨i, by omega⟩) : distinct (Set.range s) j = s ⟨j, hj⟩ :=
  distinct_range_of_falling s hs j hj fun i hi => .inl (h i hi)

end Cert.TopK

end
-- ==== Proof.Levels.lean ====
/-
  One round of the kernel, at the extended reals: the greatest entry of each row, and the array with every
  entry equal to it overwritten by −∞. After `j` rounds what is left of a row is its entries below the
  `j`-th distinct value, and the next maximum is the next distinct value. Stated once, for any array whose
  reduction keeps its 256 rows.
-/
module

public import proofs.«01_k».proof.Proof.Gen.KernelIdeal.Skeleton
public import proofs.«01_k».proof.Proof.Distinct
public import Idealize.ShloMosaic.PureOps.Ideal.Laws
public import Idealize.ShloMosaic.PureOps.Reduce
public import Idealize.ShloMosaic.Lib.Pipeline.Value
public import Idealize.ShloMosaic.Lib.Pointwise.Index
public import Idealize.ShloMosaic.Lib.Pointwise.Reshape

@[expose] public section

noncomputable section

namespace Cert.TopK

open Cert.KernelIdeal Cert.KernelIdeal.Gen
open Idealize.ShloMosaic

/-- A select on a truth value is the case distinction. -/
theorem select_ofBool {α : Type} (p : Prop) [Decidable p] (a b : α) : Scalar.select (BitVec.ofBool (decide p)) a b = if p then a else b := by
  by_cases hp : p <;> simp [hp, Scalar.select]

/-- Among entries at most `m`, those not equal to `m` are those below it. -/
theorem round_entry {v m : EReal} [Decidable (v = m)] [Decidable (v < m)] (hv : v ≤ m) : (if v = m then ⊥ else v) = if v < m then v else ⊥ := by
  rcases eq_or_lt_of_le hv with e | e
  · rw [if_pos e, if_neg (by rw [e]; exact lt_irrefl _)]
  · rw [if_neg e.ne, if_pos e]

section
variable {σ κ : Shape} {axes : List (Fin σ.rank)} (h : σ.Reduces axes S256)

/-- The entries of row `r` of an array, as a set. -/
def rowSet (x : FVec Ideal σ .bf16) (r : S256.Idx) : Set EReal := {a | ∃ i, h.drop i = r ∧ x i = a}

/-- A row has finitely many entries. -/
theorem rowSet_finite (x : FVec Ideal σ .bf16) (r : S256.Idx) : (rowSet h x r).Finite :=
  (Set.finite_range x).subset fun _ ⟨i, _, e⟩ => ⟨i, e⟩

/-- The array after `j` rounds: an entry stays while it is below every value taken so far. -/
def level (x : FVec Ideal σ .bf16) : Nat → FVec Ideal σ .bf16
  | 0 => x
  | j + 1 => fun i => open Classical in if (x i : EReal) < distinct (rowSet h x (h.drop i)) j then x i else (⊥ : EReal)

/-- The `j`-th distinct value of each row. -/
def taken (x : FVec Ideal σ .bf16) (j : Nat) : FVec Ideal S256 .bf16 := fun r => distinct (rowSet h x r) j

/-- A maximum over some axes is the least upper bound of the entries that reduce to the index. -/
theorem max_eq_sSup (x : FVec Ideal σ .bf16) (hφ : FKind.Formats .bf16) (hacc : (0xFF80#16 : BitVec 16) = FKind.maximumf.neutral .bf16 hφ)
    (r : S256.Idx) : multiReduction .maximumf axes S256 x 0xFF80#16 h hφ hacc r = sSup (rowSet h x r) := by
  rw [multiReduction_maximumf_eq_fold]
  have h0 : FloatOps.ofBits (F := Ideal) .bf16 0xFF80#16 = (⊥ : EReal) := by
    show Ideal.ofBits .bf16 0xFF80#16 = _
    simp [Ideal.ofBits, Ideal.ieee]
  rw [h0]
  show (Finset.univ.filter fun i => h.drop i = r).sup (fun i => (x i : EReal)) = _
  rw [Finset.sup_eq_sSup_image]
  refine congrArg sSup (Set.ext fun a => ?_)
  simp [rowSet]

/-- The maximum after `j` rounds is the `j`-th distinct value. -/
theorem max_level (x : FVec Ideal σ .bf16) (j : Nat) (hφ : FKind.Formats .bf16)
    (hacc : (0xFF80#16 : BitVec 16) = 0xFF80#16) :
    multiReduction .maximumf axes S256 (level h x j) 0xFF80#16 h hφ hacc = taken h x j := by
  funext r
  refine (max_eq_sSup h (level h x j) hφ hacc r).trans ?_
  cases j with
  | zero => rfl
  | succ j =>
    refine le_antisymm (sSup_le ?_) (sSup_le_sSup ?_)
    · rintro _ ⟨i, hi, rfl⟩
      show (if (x i : EReal) < distinct (rowSet h x (h.drop i)) j then (x i : EReal) else ⊥) ≤ _
      split
      · next hlt => exact le_sSup ⟨⟨i, hi, rfl⟩, hi ▸ hlt⟩
      · exact bot_le
    · rintro _ ⟨⟨i, hi, rfl⟩, hlt⟩
      refine ⟨i, hi, ?_⟩
      show (if (x i : EReal) < distinct (rowSet h x (h.drop i)) j then (x i : EReal) else ⊥) = _
      rw [hi]
      exact if_pos hlt

/-- What a round leaves: overwriting with −∞ the entries equal to the row's maximum takes `j` rounds to `j + 1`. -/
theorem mask_level (hc : S256.ShapeCasts κ) (hb : κ.Broadcasts σ)
    (hrow : ∀ (v : FVec Ideal S256 .bf16) (i : σ.Idx), broadcastTo σ (shapeCast κ v hc) hb i = v (h.drop i))
    (x : FVec Ideal σ .bf16) (j : Nat) (hw : FTy.bf16.bits < FTy.f32.bits) :
    select (cmpf .oeq (level h x j) (broadcastTo σ (shapeCast κ (taken h x j) hc) hb))
      (broadcast σ (Scalar.truncf .bf16 hw (Scalar.ofBits (F := Ideal) .f32 0xFF800000#32))) (level h x j) = level h x (j + 1) := by
  have h0 : Scalar.truncf .bf16 hw (Scalar.ofBits (F := Ideal) .f32 0xFF800000#32) = (⊥ : EReal) := by
    show Ideal.ofBits .f32 0xFF800000#32 = _
    simp [Ideal.ofBits, Ideal.ieee]
  classical
  funext i
  show Scalar.select (BitVec.ofBool (decide ((level h x j i : EReal) = broadcastTo σ (shapeCast κ (taken h x j) hc) hb i)))
    (Scalar.truncf .bf16 hw (Scalar.ofBits (F := Ideal) .f32 0xFF800000#32)) (level h x j i) = _
  rw [hrow, h0, select_ofBool]
  show (if (level h x j i : EReal) = distinct (rowSet h x (h.drop i)) j then (⊥ : EReal) else level h x j i)
    = if (x i : EReal) < distinct (rowSet h x (h.drop i)) j then x i else ⊥
  cases j with
  | zero => exact round_entry (le_sSup ⟨i, rfl, rfl⟩)
  | succ j =>
    have hl : (level h x (j + 1) i : EReal) = if (x i : EReal) < distinct (rowSet h x (h.drop i)) j then (x i : EReal) else ⊥ := by
      show (if _ then _ else _) = _
      congr
    rw [hl]
    by_cases hlt : (x i : EReal) < distinct (rowSet h x (h.drop i)) j
    · rw [if_pos hlt]
      exact round_entry (le_sSup ⟨⟨i, rfl, rfl⟩, hlt⟩)
    · rw [if_neg hlt, ite_self, if_neg fun h' => hlt (h'.trans_le (distinct_succ_le _ j))]

/-- The greatest entry of each row, as the kernel takes it. -/
def rowMax (v : FVec Ideal σ .bf16) : FVec Ideal S256 .bf16 :=
  multiReduction .maximumf axes S256 v 0xFF80#16 h (.inr rfl) rfl

/-- One round, as the kernel does it: the entries equal to their row's greatest are overwritten by −∞. -/
def round (hc : S256.ShapeCasts κ) (hb : κ.Broadcasts σ) (v : FVec Ideal σ .bf16) : FVec Ideal σ .bf16 :=
  select (cmpf .oeq v (broadcastTo σ (shapeCast κ (rowMax h v) hc) hb))
    (broadcast σ (Scalar.truncf .bf16 bitsLt_bf16_f32 (Scalar.ofBits (F := Ideal) .f32 0xFF800000#32))) v

theorem rowMax_level (x : FVec Ideal σ .bf16) (j : Nat) : rowMax h (level h x j) = taken h x j := max_level h x j _ rfl

theorem round_level (hc : S256.ShapeCasts κ) (hb : κ.Broadcasts σ)
    (hrow : ∀ (v : FVec Ideal S256 .bf16) (i : σ.Idx), broadcastTo σ (shapeCast κ v hc) hb i = v (h.drop i))
    (x : FVec Ideal σ .bf16) (j : Nat) : round h hc hb (level h x j) = level h x (j + 1) := by
  unfold round
  rw [rowMax_level]
  exact mask_level h hc hb hrow x j _

/-- The greatest entries after `j` rounds, as the kernel runs them, are the `j`-th distinct values. -/
theorem rowMax_rounds (hc : S256.ShapeCasts κ) (hb : κ.Broadcasts σ)
    (hrow : ∀ (v : FVec Ideal S256 .bf16) (i : σ.Idx), broadcastTo σ (shapeCast κ v hc) hb i = v (h.drop i))
    (x : FVec Ideal σ .bf16) (j : Nat) : rowMax h ((round h hc hb)^[j] x) = taken h x j := by
  have : (round h hc hb)^[j] x = level h x j := by
    induction j with
    | zero => rfl
    | succ j ih => rw [Function.iterate_succ_apply', ih, round_level h hc hb hrow]
  rw [this, rowMax_level]

end

end Cert.TopK

end
-- ==== Proof.Stages.lean ====
/-
  What the kernel's three stages compute at the extended reals: each takes, row by row, the eight greatest
  distinct values of its entries. The first reads a device's block, the second the six slots that are nearest,
  the third the second's results with the last two slots.
-/
module

public import proofs.«01_k».proof.Proof.Levels
public import proofs.«01_k».proof.Proof.Steps
public import Idealize.ShloMosaic.Lib.Pipeline.ValueKit.Tiles

@[expose] public section

noncomputable section

namespace Cert.TopK

open Cert.KernelIdeal Cert.KernelIdeal.Gen
open Idealize.ShloMosaic

/-- A column cast from the 256 rows reads at its row. -/
theorem column_apply (v : FVec Ideal S256 .bf16) (i : S256x1.Idx) :
    shapeCast S256x1 v shapeCasts_S256_S256x1 i = v (ix1 (n0 := 256) (i 0)) := by
  refine shapeCast_apply _ _ _ _ ?_
  rw [rowMajor_val1, rowMajor_val2 _ 1 rfl]
  have : (i 1 : Nat) < 1 := (i 1).isLt
  show (i 0 : Nat) = (i 0 : Nat) * 1 + (i 1 : Nat)
  omega

/-- The same of the column with a leading axis. -/
theorem column3_apply (v : FVec Ideal S256 .bf16) (i : S1x256x1.Idx) :
    shapeCast S1x256x1 v shapeCasts_S256_S1x256x1 i = v (ix1 (n0 := 256) (i 1)) := by
  refine shapeCast_apply _ _ _ _ ?_
  rw [rowMajor_val1, rowMajor_val3 _ 256 1 rfl rfl]
  have : (i 0 : Nat) < 1 := (i 0).isLt
  have : (i 2 : Nat) < 1 := (i 2).isLt
  show (i 1 : Nat) = (i 0 : Nat) * 256 + (i 1 : Nat) * 1 + (i 2 : Nat)
  omega

/-- Dropping the leading axis of such a column. -/
theorem column_of3_apply (v : FVec Ideal S1x256x1 .bf16) (i : S256x1.Idx) :
    shapeCast S256x1 v shapeCasts_S1x256x1_S256x1 i = v (ix3 (n0 := 1) (n1 := 256) (n2 := 1) 0 (i 0) 0) := by
  refine shapeCast_apply _ _ _ _ ?_
  rw [rowMajor_val3 _ 256 1 rfl rfl, rowMajor_val2 _ 1 rfl]
  have : (i 1 : Nat) < 1 := (i 1).isLt
  simp only [ix3_0, ix3_1, ix3_2]
  simp
  omega

theorem drop1024 (i : S256x1024.Idx) : reduces_S256x1024_S256.drop i = ix1 (n0 := 256) (i 0) := by
  funext a
  match a with
  | ⟨0, _⟩ => exact Fin.ext (reduces_S256x1024_S256.drop_apply_val_of_eq i 0 0)

theorem drop6 (i : S6x256x8.Idx) : reduces_S6x256x8_S256.drop i = ix1 (n0 := 256) (i 1) := by
  funext a
  match a with
  | ⟨0, _⟩ => exact Fin.ext (reduces_S6x256x8_S256.drop_apply_val_of_eq i 0 1)

theorem drop24 (i : S256x24.Idx) : reduces_S256x24_S256.drop i = ix1 (n0 := 256) (i 0) := by
  funext a
  match a with
  | ⟨0, _⟩ => exact Fin.ext (reduces_S256x24_S256.drop_apply_val_of_eq i 0 0)

theorem row1024 (v : FVec Ideal S256 .bf16) (i : S256x1024.Idx) :
    broadcastTo S256x1024 (shapeCast S256x1 v shapeCasts_S256_S256x1) broadcasts_S256x1_S256x1024 i
      = v (reduces_S256x1024_S256.drop i) := by
  refine (broadcastTo_apply _ _ i (ix2 (n0 := 256) (n1 := 1) (i 0) 0) ?_).trans ((column_apply v _).trans (congrArg v (drop1024 i).symm))
  · intro a; match a with
    | ⟨0, _⟩ => rfl
    | ⟨1, _⟩ => rfl

theorem row6 (v : FVec Ideal S256 .bf16) (i : S6x256x8.Idx) :
    broadcastTo S6x256x8 (shapeCast S1x256x1 v shapeCasts_S256_S1x256x1) broadcasts_S1x256x1_S6x256x8 i
      = v (reduces_S6x256x8_S256.drop i) := by
  refine (broadcastTo_apply _ _ i (ix3 (n0 := 1) (n1 := 256) (n2 := 1) 0 (i 1) 0) ?_).trans ((column3_apply v _).trans (congrArg v (drop6 i).symm))
  · intro a; match a with
    | ⟨0, _⟩ => rfl
    | ⟨1, _⟩ => rfl
    | ⟨2, _⟩ => rfl

theorem row24 (v : FVec Ideal S256 .bf16) (i : S256x24.Idx) :
    broadcastTo S256x24 (shapeCast S256x1 v shapeCasts_S256_S256x1) broadcasts_S256x1_S256x24 i
      = v (reduces_S256x24_S256.drop i) := by
  refine (broadcastTo_apply _ _ i (ix2 (n0 := 256) (n1 := 1) (i 0) 0) ?_).trans ((column_apply v _).trans (congrArg v (drop24 i).symm))
  · intro a; match a with
    | ⟨0, _⟩ => rfl
    | ⟨1, _⟩ => rfl

/-- Eight columns side by side, read at row and column. -/
theorem eight_apply (f : Fin 8 → S256x1.Idx → Ideal .bf16) (i : S256x8.Idx)
    (h : Shape.Concatenates [S256x1, S256x1, S256x1, S256x1, S256x1, S256x1, S256x1, S256x1] S256x8 1) :
    concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩] h i
      = f (i 1) (ix2 (n0 := 256) (n1 := 1) (i 0) 0) :=
  concatenate_ofFn_unit_apply (t := S256x8) 1 f h rfl rfl i (i 1) rfl (ix2 (n0 := 256) (n1 := 1) (i 0) 0) (by
    intro b hb; match b with
    | ⟨0, _⟩ => rfl
    | ⟨1, _⟩ => exact absurd rfl hb)

/-- One round on a block, and the column of its rows' greatest entries. -/
def round1024 (v : FVec Ideal S256x1024 .bf16) : FVec Ideal S256x1024 .bf16 :=
  round reduces_S256x1024_S256 shapeCasts_S256_S256x1 broadcasts_S256x1_S256x1024 v

def col1024 (v : FVec Ideal S256x1024 .bf16) : FVec Ideal S256x1 .bf16 :=
  shapeCast S256x1 (rowMax reduces_S256x1024_S256 v) shapeCasts_S256_S256x1

/-- A block after `j` rounds, and the column of the `j`-th distinct values of its rows. -/
def level1024 (x : Vec Ideal S256x1024 .f32) (j : Nat) : FVec Ideal S256x1024 .bf16 :=
  level reduces_S256x1024_S256 (fun i => (x i : EReal)) j

def taken1024 (x : Vec Ideal S256x1024 .f32) (j : Nat) : FVec Ideal S256x1 .bf16 :=
  shapeCast S256x1 (taken reduces_S256x1024_S256 (fun i => (x i : EReal)) j) shapeCasts_S256_S256x1

theorem round1024_level (x : Vec Ideal S256x1024 .f32) (j : Nat) : round1024 (level1024 x j) = level1024 x (j + 1) :=
  round_level _ _ _ row1024 _ _

theorem col1024_level (x : Vec Ideal S256x1024 .f32) (j : Nat) : col1024 (level1024 x j) = taken1024 x j :=
  congrArg (fun v => shapeCast S256x1 v shapeCasts_S256_S256x1) (rowMax_level _ _ _)

theorem pay3_eq (x : Vec Ideal S256x1024 .f32) : k0_pay3 x = level1024 x 1 := round1024_level x 0
theorem pay5_eq (x : Vec Ideal S256x1024 .f32) : k0_pay5 x = level1024 x 2 :=
  (show k0_pay5 x = round1024 (k0_pay3 x) from rfl).trans (by rw [pay3_eq, round1024_level])
theorem pay7_eq (x : Vec Ideal S256x1024 .f32) : k0_pay7 x = level1024 x 3 :=
  (show k0_pay7 x = round1024 (k0_pay5 x) from rfl).trans (by rw [pay5_eq, round1024_level])

theorem pay2_eq (x : Vec Ideal S256x1024 .f32) : k0_pay2 x = taken1024 x 0 := col1024_level x 0
theorem pay4_eq (x : Vec Ideal S256x1024 .f32) : k0_pay4 x = taken1024 x 1 :=
  (show k0_pay4 x = col1024 (k0_pay3 x) from rfl).trans (by rw [pay3_eq, col1024_level])
theorem pay6_eq (x : Vec Ideal S256x1024 .f32) : k0_pay6 x = taken1024 x 2 :=
  (show k0_pay6 x = col1024 (k0_pay5 x) from rfl).trans (by rw [pay5_eq, col1024_level])
theorem pay8_eq (x : Vec Ideal S256x1024 .f32) : k0_pay8 x = taken1024 x 3 :=
  (show k0_pay8 x = col1024 (k0_pay7 x) from rfl).trans (by rw [pay7_eq, col1024_level])
theorem pay9_eq (x : Vec Ideal S256x1024 .f32) :
    k0_pay9 x = cmpf .oeq (k0_pay7 x) (broadcastTo S256x1024 (col1024 (k0_pay7 x)) broadcasts_S256x1_S256x1024) := rfl

/-- The last four columns of the candidates are those of the array handed over, each a round later. -/
theorem pay10_eq (c0 c1 c2 c3 : FVec Ideal S256x1 .bf16) (v : FVec Ideal S256x1024 .bf16) :
    k0_pay10 c0 c1 c2 v c3 (cmpf .oeq v (broadcastTo S256x1024 (col1024 v) broadcasts_S256x1_S256x1024)) (Scalar.ofBits .f32 0xFF800000#32)
      = shapeCast S1x256x8 (concatenate S256x8 1 [⟨S256x1, c0⟩, ⟨S256x1, c1⟩, ⟨S256x1, c2⟩, ⟨S256x1, c3⟩, ⟨S256x1, col1024 (round1024 v)⟩,
          ⟨S256x1, col1024 (round1024 (round1024 v))⟩, ⟨S256x1, col1024 (round1024 (round1024 (round1024 v)))⟩,
          ⟨S256x1, col1024 (round1024 (round1024 (round1024 (round1024 v))))⟩]
        concatenates_S256x1_S256x1_S256x1_S256x1_S256x1_S256x1_S256x1_S256x1_S256x8_d1) shapeCasts_S256x8_S1x256x8 := rfl

/-- The candidates are the columns of the first eight distinct values, side by side. -/
theorem cand_eq (x : Vec Ideal S256x1024 .f32) :
    cand x = shapeCast S1x256x8 (concatenate S256x8 1 [⟨S256x1, taken1024 x 0⟩, ⟨S256x1, taken1024 x 1⟩, ⟨S256x1, taken1024 x 2⟩,
        ⟨S256x1, taken1024 x 3⟩, ⟨S256x1, taken1024 x 4⟩, ⟨S256x1, taken1024 x 5⟩, ⟨S256x1, taken1024 x 6⟩, ⟨S256x1, taken1024 x 7⟩]
      concatenates_S256x1_S256x1_S256x1_S256x1_S256x1_S256x1_S256x1_S256x1_S256x8_d1) shapeCasts_S256x8_S1x256x8 := by
  unfold cand
  rw [pay9_eq, pay10_eq, pay2_eq, pay4_eq, pay6_eq, pay8_eq, pay7_eq]
  rw [round1024_level x 3, round1024_level x 4, round1024_level x 5, round1024_level x 6,
    col1024_level, col1024_level, col1024_level, col1024_level]

/-- The entries of a row of a block, listed along the row. -/
theorem rowSet1024 (x : FVec Ideal S256x1024 .bf16) (r : Fin 256) :
    rowSet reduces_S256x1024_S256 x (ix1 r) = {a | ∃ k : Fin 1024, (x (ix2 r k) : EReal) = a} := by
  ext a
  constructor
  · rintro ⟨i, hi, e⟩
    have h0 : i 0 = r := (congrFun ((drop1024 i).symm.trans hi) 0 :)
    exact ⟨i 1, by rw [← e, ← h0]; exact congrArg x (ix2_eta i)⟩
  · rintro ⟨k, e⟩
    exact ⟨ix2 r k, drop1024 _, e⟩

/-- The first stage: column `j` of the candidates is the `j`-th distinct value of each row of the block. -/
theorem cand_apply (x : Vec Ideal S256x1024 .f32) (i : S1x256x8.Idx) :
    (cand x i : EReal) = distinct {a | ∃ k : Fin 1024, (x (ix2 (n0 := 256) (n1 := 1024) (i 1) k) : EReal) = a} ((i 2 : Fin 8) : Nat) := by
  rw [cand_eq]
  refine (shapeCast_apply _ _ i (ix2 (n0 := 256) (n1 := 8) (i 1) (i 2)) ?_).trans ?_
  · rw [rowMajor_val2 _ 8 rfl, rowMajor_val3 _ 2048 8 rfl rfl]
    have : (i 0 : Nat) < 1 := (i 0).isLt
    show (i 1 : Nat) * 8 + (i 2 : Nat) = (i 0 : Nat) * 2048 + (i 1 : Nat) * 8 + (i 2 : Nat)
    omega
  · refine (eight_apply (fun j => taken1024 x j) (ix2 (n0 := 256) (n1 := 8) (i 1) (i 2)) _).trans ?_
    refine (column_apply _ _).trans ?_
    exact congrArg (fun S => distinct S ((i 2 : Fin 8) : Nat)) (rowSet1024 _ _)

end Cert.TopK

end
-- ==== Proof.Merge.lean ====
/-
  What the second and the third stage compute at the extended reals. The second takes the eight greatest
  distinct values of each row of the six nearest slots; the third puts them beside the last two slots and takes
  the eight greatest distinct values of that.
-/
module

public import proofs.«01_k».proof.Proof.Stages
public import proofs.«01_k».proof.Proof.Body

@[expose] public section

noncomputable section

namespace Cert.TopK

open Cert.KernelIdeal Cert.KernelIdeal.Gen
open Idealize.ShloMosaic

/-! ## The second stage -/

/-- One round on the six slots, and the column of the greatest entries of their rows. -/
def round6 (v : FVec Ideal S6x256x8 .bf16) : FVec Ideal S6x256x8 .bf16 :=
  round reduces_S6x256x8_S256 shapeCasts_S256_S1x256x1 broadcasts_S1x256x1_S6x256x8 v

def col6 (v : FVec Ideal S6x256x8 .bf16) : FVec Ideal S1x256x1 .bf16 :=
  shapeCast S1x256x1 (rowMax reduces_S6x256x8_S256 v) shapeCasts_S256_S1x256x1

/-- The six slots after `j` rounds, and the column of the `j`-th distinct values of their rows. -/
def level6 (y : Vec Ideal S6x256x8 .bf16) (j : Nat) : FVec Ideal S6x256x8 .bf16 := level reduces_S6x256x8_S256 y j

def taken6 (y : Vec Ideal S6x256x8 .bf16) (j : Nat) : FVec Ideal S1x256x1 .bf16 :=
  shapeCast S1x256x1 (taken reduces_S6x256x8_S256 y j) shapeCasts_S256_S1x256x1

theorem round6_level (y : Vec Ideal S6x256x8 .bf16) (j : Nat) : round6 (level6 y j) = level6 y (j + 1) := round_level _ _ _ row6 _ _

theorem col6_level (y : Vec Ideal S6x256x8 .bf16) (j : Nat) : col6 (level6 y j) = taken6 y j :=
  congrArg (fun v => shapeCast S1x256x1 v shapeCasts_S256_S1x256x1) (rowMax_level _ _ _)

theorem pay11_eq (y : Vec Ideal S6x256x8 .bf16) : k0_pay11 y = taken6 y 0 := col6_level y 0
theorem pay12_eq (y : Vec Ideal S6x256x8 .bf16) : k0_pay12 y = level6 y 1 := round6_level y 0
theorem pay13_eq (y : Vec Ideal S6x256x8 .bf16) : k0_pay13 y = taken6 y 1 :=
  (show k0_pay13 y = col6 (k0_pay12 y) from rfl).trans (by rw [pay12_eq, col6_level])
theorem pay14_eq (y : Vec Ideal S6x256x8 .bf16) : k0_pay14 y = level6 y 2 :=
  (show k0_pay14 y = round6 (k0_pay12 y) from rfl).trans (by rw [pay12_eq, round6_level])
theorem pay15_eq (y : Vec Ideal S6x256x8 .bf16) : k0_pay15 y = rowMax reduces_S6x256x8_S256 (level6 y 2) :=
  (show k0_pay15 y = rowMax reduces_S6x256x8_S256 (k0_pay14 y) from rfl).trans (by rw [pay14_eq])
theorem pay16_eq (y : Vec Ideal S6x256x8 .bf16) : k0_pay16 (k0_pay15 y) = taken6 y 2 :=
  (congrArg k0_pay16 (pay15_eq y)).trans (col6_level y 2)
theorem pay17_eq (y : Vec Ideal S6x256x8 .bf16) : k0_pay17 (k0_pay14 y) (k0_pay15 y) = level6 y 3 := by
  rw [pay15_eq, pay14_eq]; exact round6_level y 2
theorem pay18_eq (y : Vec Ideal S6x256x8 .bf16) : k0_pay18 (k0_pay14 y) (k0_pay15 y) = taken6 y 3 :=
  (show _ = col6 (k0_pay17 (k0_pay14 y) (k0_pay15 y)) from rfl).trans (by rw [pay17_eq, col6_level])
theorem pay19_eq (y : Vec Ideal S6x256x8 .bf16) : k0_pay19 (k0_pay14 y) (k0_pay15 y) = level6 y 4 :=
  (show _ = round6 (k0_pay17 (k0_pay14 y) (k0_pay15 y)) from rfl).trans (by rw [pay17_eq, round6_level])
theorem pay20_eq (y : Vec Ideal S6x256x8 .bf16) : k0_pay20 (k0_pay14 y) (k0_pay15 y) = taken6 y 4 :=
  (show _ = col6 (k0_pay19 (k0_pay14 y) (k0_pay15 y)) from rfl).trans (by rw [pay19_eq, col6_level])
theorem pay21_eq (y : Vec Ideal S6x256x8 .bf16) : k0_pay21 (k0_pay14 y) (k0_pay15 y) = level6 y 5 :=
  (show _ = round6 (k0_pay19 (k0_pay14 y) (k0_pay15 y)) from rfl).trans (by rw [pay19_eq, round6_level])
theorem pay22_eq (y : Vec Ideal S6x256x8 .bf16) : k0_pay22 (k0_pay14 y) (k0_pay15 y) = taken6 y 5 :=
  (show _ = col6 (k0_pay21 (k0_pay14 y) (k0_pay15 y)) from rfl).trans (by rw [pay21_eq, col6_level])
theorem pay23_eq (y : Vec Ideal S6x256x8 .bf16) : k0_pay23 (k0_pay14 y) (k0_pay15 y) = level6 y 6 :=
  (show _ = round6 (k0_pay21 (k0_pay14 y) (k0_pay15 y)) from rfl).trans (by rw [pay21_eq, round6_level])
theorem pay24_eq (y : Vec Ideal S6x256x8 .bf16) : k0_pay24 (k0_pay14 y) (k0_pay15 y) = taken6 y 6 :=
  (show _ = col6 (k0_pay23 (k0_pay14 y) (k0_pay15 y)) from rfl).trans (by rw [pay23_eq, col6_level])
theorem pay25_eq (y : Vec Ideal S6x256x8 .bf16) : k0_pay25 (k0_pay14 y) (k0_pay15 y) = taken6 y 7 :=
  (show _ = col6 (round6 (k0_pay23 (k0_pay14 y) (k0_pay15 y))) from rfl).trans (by rw [pay23_eq, round6_level, col6_level])

/-- The entries of row `r` of the six slots. -/
def nearSet (y : Vec Ideal S6x256x8 .bf16) (r : Fin 256) : Set EReal := {a | ∃ (s : Fin 6) (k : Fin 8), (y (ix3 s r k) : EReal) = a}

theorem rowSet6 (y : Vec Ideal S6x256x8 .bf16) (r : Fin 256) : rowSet reduces_S6x256x8_S256 y (ix1 r) = nearSet y r := by
  ext a
  constructor
  · rintro ⟨i, hi, e⟩
    have h0 : i 1 = r := (congrFun ((drop6 i).symm.trans hi) 0 :)
    exact ⟨i 0, i 2, by rw [← e, ← h0]; exact congrArg y (ix3_eta i)⟩
  · rintro ⟨s, k, e⟩
    exact ⟨ix3 s r k, drop6 _, e⟩

/-! ## The third stage -/

/-- The third stage's array: eight columns of distinct values, then the last two slots. -/
def joined (y : Vec Ideal S6x256x8 .bf16) (y6 y7 : Vec Ideal S1x256x8 .bf16) : FVec Ideal S256x24 .bf16 :=
  k0_pay26 (taken6 y 0) (taken6 y 1) (taken6 y 2) (taken6 y 3) (taken6 y 4) (taken6 y 5) (taken6 y 6) (taken6 y 7) y6 y7

/-- A slot cast to a matrix reads at row and column. -/
theorem slot_apply (v : Vec Ideal S1x256x8 .bf16) (r : Fin 256) (k : Fin 8) :
    shapeCast S256x8 v shapeCasts_S1x256x8_S256x8 (ix2 r k) = v (ix3 0 r k) := by
  refine shapeCast_apply _ _ _ _ ?_
  rw [rowMajor_val3 _ 2048 8 rfl rfl, rowMajor_val2 _ 8 rfl]
  show 0 * 2048 + (r : Nat) * 8 + (k : Nat) = (r : Nat) * 8 + (k : Nat)
  omega

theorem taken6_apply (y : Vec Ideal S6x256x8 .bf16) (j : Nat) (r : Fin 256) :
    (shapeCast S256x1 (taken6 y j) shapeCasts_S1x256x1_S256x1 (ix2 r 0) : EReal) = distinct (nearSet y r) j :=
  (column_of3_apply _ _).trans ((column3_apply _ _).trans (congrArg (fun S => distinct S j) (rowSet6 y r)))

/-- The third stage's array, piece by piece. -/
abbrev pieces (y : Vec Ideal S6x256x8 .bf16) (y6 y7 : Vec Ideal S1x256x8 .bf16) : List ((s : Shape) × (s.Idx → Ideal .bf16)) :=
  [⟨S256x1, shapeCast S256x1 (taken6 y 0) shapeCasts_S1x256x1_S256x1⟩, ⟨S256x1, shapeCast S256x1 (taken6 y 1) shapeCasts_S1x256x1_S256x1⟩,
   ⟨S256x1, shapeCast S256x1 (taken6 y 2) shapeCasts_S1x256x1_S256x1⟩, ⟨S256x1, shapeCast S256x1 (taken6 y 3) shapeCasts_S1x256x1_S256x1⟩,
   ⟨S256x1, shapeCast S256x1 (taken6 y 4) shapeCasts_S1x256x1_S256x1⟩, ⟨S256x1, shapeCast S256x1 (taken6 y 5) shapeCasts_S1x256x1_S256x1⟩,
   ⟨S256x1, shapeCast S256x1 (taken6 y 6) shapeCasts_S1x256x1_S256x1⟩, ⟨S256x1, shapeCast S256x1 (taken6 y 7) shapeCasts_S1x256x1_S256x1⟩,
   ⟨S256x8, shapeCast S256x8 y6 shapeCasts_S1x256x8_S256x8⟩, ⟨S256x8, shapeCast S256x8 y7 shapeCasts_S1x256x8_S256x8⟩]

/-- Its first eight columns. -/
theorem joined_near (y : Vec Ideal S6x256x8 .bf16) (y6 y7 : Vec Ideal S1x256x8 .bf16) (r : Fin 256) (j : Fin 8) :
    (joined y y6 y7 (ix2 r (⟨j, by omega⟩ : Fin 24)) : EReal) = distinct (nearSet y r) j := by
  refine Eq.trans ?_ (taken6_apply y j r)
  refine concatenate_apply_piece (t := S256x24) 1 (pieces y y6 y7) concatenates_S256x1_S256x1_S256x1_S256x1_S256x1_S256x1_S256x1_S256x1_S256x8_S256x8_S256x24_d1 _ j.val ?_ S256x1 (shapeCast S256x1 (taken6 y j) shapeCasts_S1x256x1_S256x1) ?_ rfl j.val ?_ (ix2 r 0) ?_ ?_
  · exact (show j.val < 10 by omega)
  · fin_cases j <;> rfl
  · fin_cases j <;> rfl
  · intro b hb; match b with
    | ⟨0, _⟩ => rfl
    | ⟨1, _⟩ => exact absurd rfl hb
  · exact Nat.add_zero _

/-- Its next eight columns are slot 6. -/
theorem joined_six (y : Vec Ideal S6x256x8 .bf16) (y6 y7 : Vec Ideal S1x256x8 .bf16) (r : Fin 256) (k : Fin 8) :
    joined y y6 y7 (ix2 r (⟨8 + k, by omega⟩ : Fin 24)) = y6 (ix3 0 r k) := by
  refine Eq.trans ?_ (slot_apply y6 r k)
  refine concatenate_apply_piece (t := S256x24) 1 (pieces y y6 y7) concatenates_S256x1_S256x1_S256x1_S256x1_S256x1_S256x1_S256x1_S256x1_S256x8_S256x8_S256x24_d1 _ 8 ?_ S256x8 (shapeCast S256x8 y6 shapeCasts_S1x256x8_S256x8) ?_ rfl 8 rfl (ix2 r k) ?_ rfl
  · exact (show 8 < 10 by omega)
  · rfl
  intro b hb; match b with
    | ⟨0, _⟩ => rfl
    | ⟨1, _⟩ => exact absurd rfl hb

/-- Its last eight columns are slot 7. -/
theorem joined_seven (y : Vec Ideal S6x256x8 .bf16) (y6 y7 : Vec Ideal S1x256x8 .bf16) (r : Fin 256) (k : Fin 8) :
    joined y y6 y7 (ix2 r (⟨16 + k, by omega⟩ : Fin 24)) = y7 (ix3 0 r k) := by
  refine Eq.trans ?_ (slot_apply y7 r k)
  refine concatenate_apply_piece (t := S256x24) 1 (pieces y y6 y7) concatenates_S256x1_S256x1_S256x1_S256x1_S256x1_S256x1_S256x1_S256x1_S256x8_S256x8_S256x24_d1 _ 9 ?_ S256x8 (shapeCast S256x8 y7 shapeCasts_S1x256x8_S256x8) ?_ rfl 16 rfl (ix2 r k) ?_ rfl
  · exact (show 9 < 10 by omega)
  · rfl
  intro b hb; match b with
    | ⟨0, _⟩ => rfl
    | ⟨1, _⟩ => exact absurd rfl hb

/-- The entries of row `r` of the third stage's array. -/
def joinedSet (y : Vec Ideal S6x256x8 .bf16) (y6 y7 : Vec Ideal S1x256x8 .bf16) (r : Fin 256) : Set EReal :=
  {a | ∃ k : Fin 24, (joined y y6 y7 (ix2 r k) : EReal) = a}

theorem rowSet24 (x : FVec Ideal S256x24 .bf16) (r : Fin 256) :
    rowSet reduces_S256x24_S256 x (ix1 r) = {a | ∃ k : Fin 24, (x (ix2 r k) : EReal) = a} := by
  ext a
  constructor
  · rintro ⟨i, hi, e⟩
    have h0 : i 0 = r := (congrFun ((drop24 i).symm.trans hi) 0 :)
    exact ⟨i 1, by rw [← e, ← h0]; exact congrArg x (ix2_eta i)⟩
  · rintro ⟨k, e⟩
    exact ⟨ix2 r k, drop24 _, e⟩

/-- Each entry is a distinct value of the six slots or an entry of the last two. -/
theorem joinedSet_cases (y : Vec Ideal S6x256x8 .bf16) (y6 y7 : Vec Ideal S1x256x8 .bf16) (r : Fin 256) {a : EReal}
    (ha : a ∈ joinedSet y y6 y7 r) :
    (∃ j : Fin 8, a = distinct (nearSet y r) j) ∨ (∃ k : Fin 8, a = y6 (ix3 0 r k)) ∨ ∃ k : Fin 8, a = y7 (ix3 0 r k) := by
  obtain ⟨k, rfl⟩ := ha
  by_cases h8 : k.val < 8
  · exact .inl ⟨⟨k, h8⟩, joined_near y y6 y7 r ⟨k, h8⟩⟩
  · by_cases h16 : k.val < 16
    · refine .inr (.inl ⟨⟨k.val - 8, by omega⟩, ?_⟩)
      rw [← joined_six y y6 y7 r ⟨k.val - 8, by omega⟩]
      exact congrArg (fun k => joined y y6 y7 (ix2 r k)) (Fin.ext (show k.val = 8 + (k.val - 8) by omega))
    · refine .inr (.inr ⟨⟨k.val - 16, by omega⟩, ?_⟩)
      rw [← joined_seven y y6 y7 r ⟨k.val - 16, by omega⟩]
      exact congrArg (fun k => joined y y6 y7 (ix2 r k)) (Fin.ext (show k.val = 16 + (k.val - 16) by omega))

/-- One round on this array, and the column of the greatest entries of its rows. -/
def round24 (v : FVec Ideal S256x24 .bf16) : FVec Ideal S256x24 .bf16 :=
  round reduces_S256x24_S256 shapeCasts_S256_S256x1 broadcasts_S256x1_S256x24 v

def col24 (v : FVec Ideal S256x24 .bf16) : FVec Ideal S256x1 .bf16 :=
  shapeCast S256x1 (rowMax reduces_S256x24_S256 v) shapeCasts_S256_S256x1

def level24 (x : FVec Ideal S256x24 .bf16) (j : Nat) : FVec Ideal S256x24 .bf16 := level reduces_S256x24_S256 x j

def taken24 (x : FVec Ideal S256x24 .bf16) (j : Nat) : FVec Ideal S256x1 .bf16 :=
  shapeCast S256x1 (taken reduces_S256x24_S256 x j) shapeCasts_S256_S256x1

theorem round24_level (x : FVec Ideal S256x24 .bf16) (j : Nat) : round24 (level24 x j) = level24 x (j + 1) := round_level _ _ _ row24 _ _

theorem col24_level (x : FVec Ideal S256x24 .bf16) (j : Nat) : col24 (level24 x j) = taken24 x j :=
  congrArg (fun v => shapeCast S256x1 v shapeCasts_S256_S256x1) (rowMax_level _ _ _)

/-- The result's last six columns are those of the array handed over, each a round later. -/
theorem pay32_eq (c0 c1 : FVec Ideal S256x1 .bf16) (v : FVec Ideal S256x24 .bf16) :
    k0_pay32 c0 v c1 (cmpf .oeq v (broadcastTo S256x24 (col24 v) broadcasts_S256x1_S256x24)) k0_pay31
      = extf .f32 (concatenate S256x8 1 [⟨S256x1, c0⟩, ⟨S256x1, c1⟩, ⟨S256x1, col24 (round24 v)⟩, ⟨S256x1, col24 (round24 (round24 v))⟩,
          ⟨S256x1, col24 (round24 (round24 (round24 v)))⟩, ⟨S256x1, col24 (round24 (round24 (round24 (round24 v))))⟩,
          ⟨S256x1, col24 (round24 (round24 (round24 (round24 (round24 v)))))⟩,
          ⟨S256x1, col24 (round24 (round24 (round24 (round24 (round24 (round24 v))))))⟩]
        concatenates_S256x1_S256x1_S256x1_S256x1_S256x1_S256x1_S256x1_S256x1_S256x8_d1) bitsLt_bf16_f32 := rfl

/-- The result is the columns of the first eight distinct values of the third stage's array. -/
theorem merged_eq (y : Vec Ideal S6x256x8 .bf16) (y6 y7 : Vec Ideal S1x256x8 .bf16) :
    merged y y6 y7 = extf .f32 (concatenate S256x8 1 [⟨S256x1, taken24 (joined y y6 y7) 0⟩, ⟨S256x1, taken24 (joined y y6 y7) 1⟩,
        ⟨S256x1, taken24 (joined y y6 y7) 2⟩, ⟨S256x1, taken24 (joined y y6 y7) 3⟩, ⟨S256x1, taken24 (joined y y6 y7) 4⟩,
        ⟨S256x1, taken24 (joined y y6 y7) 5⟩, ⟨S256x1, taken24 (joined y y6 y7) 6⟩, ⟨S256x1, taken24 (joined y y6 y7) 7⟩]
      concatenates_S256x1_S256x1_S256x1_S256x1_S256x1_S256x1_S256x1_S256x1_S256x8_d1) bitsLt_bf16_f32 := by
  unfold merged
  rw [pay11_eq, pay13_eq, pay16_eq, pay18_eq, pay20_eq, pay22_eq, pay24_eq, pay25_eq]
  have e27 : k0_pay27 (taken6 y 0) (taken6 y 1) (taken6 y 2) (taken6 y 3) (taken6 y 4) (taken6 y 5) (taken6 y 6) (taken6 y 7) y6 y7
      = taken24 (joined y y6 y7) 0 := col24_level (joined y y6 y7) 0
  have e28 : k0_pay28 (taken6 y 0) (taken6 y 1) (taken6 y 2) (taken6 y 3) (taken6 y 4) (taken6 y 5) (taken6 y 6) (taken6 y 7) y6 y7
      = level24 (joined y y6 y7) 1 := round24_level (joined y y6 y7) 0
  have e29 : k0_pay29 (taken6 y 0) (taken6 y 1) (taken6 y 2) (taken6 y 3) (taken6 y 4) (taken6 y 5) (taken6 y 6) (taken6 y 7) y6 y7
      = taken24 (joined y y6 y7) 1 :=
    (show _ = col24 (k0_pay28 (taken6 y 0) (taken6 y 1) (taken6 y 2) (taken6 y 3) (taken6 y 4) (taken6 y 5) (taken6 y 6) (taken6 y 7) y6 y7)
      from rfl).trans (by rw [e28, col24_level])
  have e30 : k0_pay30 (taken6 y 0) (taken6 y 1) (taken6 y 2) (taken6 y 3) (taken6 y 4) (taken6 y 5) (taken6 y 6) (taken6 y 7) y6 y7
      = cmpf .oeq (level24 (joined y y6 y7) 1) (broadcastTo S256x24 (col24 (level24 (joined y y6 y7) 1)) broadcasts_S256x1_S256x24) :=
    (show _ = cmpf .oeq (k0_pay28 (taken6 y 0) (taken6 y 1) (taken6 y 2) (taken6 y 3) (taken6 y 4) (taken6 y 5) (taken6 y 6) (taken6 y 7) y6 y7)
      (broadcastTo S256x24 (col24 (k0_pay28 (taken6 y 0) (taken6 y 1) (taken6 y 2) (taken6 y 3) (taken6 y 4) (taken6 y 5) (taken6 y 6) (taken6 y 7) y6 y7)) broadcasts_S256x1_S256x24)
      from rfl).trans (by rw [e28])
  rw [e27, e28, e29, e30, pay32_eq]
  generalize joined y y6 y7 = x
  rw [round24_level x 1, round24_level x 2, round24_level x 3, round24_level x 4, round24_level x 5, round24_level x 6,
    col24_level, col24_level, col24_level, col24_level, col24_level, col24_level]

/-- The result at row `r` and column `j` is the `j`-th distinct value of that row of the third stage's array. -/
theorem merged_apply (y : Vec Ideal S6x256x8 .bf16) (y6 y7 : Vec Ideal S1x256x8 .bf16) (i : S256x8.Idx) :
    (merged y y6 y7 i : EReal) = distinct (joinedSet y y6 y7 (i 0)) ((i 1 : Fin 8) : Nat) := by
  rw [merged_eq]
  refine (eight_apply (fun j => taken24 (joined y y6 y7) j) i concatenates_S256x1_S256x1_S256x1_S256x1_S256x1_S256x1_S256x1_S256x1_S256x8_d1).trans ?_
  refine (column_apply _ _).trans ?_
  exact congrArg (fun S => distinct S ((i 1 : Fin 8) : Nat)) (rowSet24 _ _)

end Cert.TopK

end
-- ==== Proof.Gathered.lean ====
/-
  The kernel's result as a function of the whole array: on every device, column `j` of a row is the `j`-th distinct
  value of that row of all eight blocks together.
-/
module

public import proofs.«01_k».proof.Proof.Merge
public import Idealize.ShloMosaic.Lib.Layout

@[expose] public section

noncomputable section

namespace Cert.TopK

open Cert.KernelIdeal Cert.KernelIdeal.Gen
open Idealize.ShloMosaic

/-- The shape of the whole array. -/
abbrev Whole : Shape := ⟨2, ![256, 8192]⟩

/-- The values of row `r` of the array. -/
def rowVals (x : Whole.Idx → EReal) (r : Fin 256) : Set EReal := {a | ∃ k : Fin 8192, x (ix2 r k) = a}

/-- The values of row `r` in the block of device `d`. -/
def blockVals (x : Whole.Idx → EReal) (d : Fin 8) (r : Fin 256) : Set EReal :=
  {a | ∃ k : Fin 1024, Layout.block S256x1024 Whole 1 8 d x (by decide) (ix2 r k) = a}

theorem rowVals_finite (x : Whole.Idx → EReal) (r : Fin 256) : (rowVals x r).Finite :=
  Set.finite_range fun k : Fin 8192 => x (ix2 r k)

theorem blockVals_finite (x : Whole.Idx → EReal) (d : Fin 8) (r : Fin 256) : (blockVals x d r).Finite :=
  Set.finite_range fun k : Fin 1024 => Layout.block S256x1024 Whole 1 8 d x (by decide) (ix2 r k)

/-- Column `k` of block `d` is column `d * 1024 + k` of the array. -/
theorem block_at (x : Whole.Idx → EReal) (d : Fin 8) (r : Fin 256) (k : Fin 1024) :
    Layout.block S256x1024 Whole 1 8 d x (by decide) (ix2 r k) = x (ix2 r (⟨d * 1024 + k, by omega⟩ : Fin 8192)) := by
  refine congrArg x (funext fun a => ?_)
  match a with
  | ⟨0, _⟩ => rfl
  | ⟨1, _⟩ => rfl

theorem block_sub (x : Whole.Idx → EReal) (d : Fin 8) (r : Fin 256) : blockVals x d r ⊆ rowVals x r := by
  rintro _ ⟨k, rfl⟩
  exact ⟨_, (block_at x d r k).symm⟩

/-- Each value of the row lies in one of the blocks. -/
theorem row_cover (x : Whole.Idx → EReal) (r : Fin 256) {a : EReal} (ha : a ∈ rowVals x r) : ∃ d, a ∈ blockVals x d r := by
  obtain ⟨k, rfl⟩ := ha
  refine ⟨⟨k / 1024, by omega⟩, ⟨k % 1024, Nat.mod_lt _ (by decide)⟩, (block_at x _ r _).trans ?_⟩
  exact congrArg (fun k => x (ix2 r k)) (Fin.ext (show k / 1024 * 1024 + k % 1024 = k.val by omega))

variable (m : (ℓ : Loc nD τ sig) → Buf (Elt Ideal) ℓ) (ρ : Dev nD → PrngReg)

/-- What the claim says of the devices' arguments. -/
def Holds (x : Whole.Idx → EReal) : Prop :=
  ∀ c : Dev nD, m ((c.tc : Thread nD τ).loc main_arg0) = Layout.block S256x1024 Whole 1 8 c x (by decide)

variable {m} {x : Whole.Idx → EReal}

/-- Slot `o` of a device's gather buffer holds the first distinct values of its peer's block. -/
theorem slot_value (hx : Holds m x) (c : Dev nD) (o : Fin 8) (r : Fin 256) (k : Fin 8) :
    (gathered m ρ c (ix3 o r k) : EReal) = distinct (blockVals x (at8 c o) r) k := by
  refine (cand_apply (xblk m ρ (at8 c o)) (inSlot (ix3 o r k))).trans ?_
  rw [show xblk m ρ (at8 c o) = _ from hx (at8 c o)]
  rfl

/-- The slots of the first merge. -/
theorem near_value (hx : Holds m x) (c : Dev nD) (s : Fin 6) (r : Fin 256) (k : Fin 8) :
    (gathered m ρ c (rect6.emb (ix3 s r k)) : EReal) = distinct (blockVals x (at8 c ⟨s, by omega⟩) r) k := by
  rw [← slot_value ρ hx]
  refine congrArg (gathered m ρ c) (funext fun a => Fin.ext ?_)
  match a with
  | ⟨0, _⟩ => exact (show 0 + 1 * s.val = s.val by omega)
  | ⟨1, _⟩ => exact (show 0 + 1 * r.val = r.val by omega)
  | ⟨2, _⟩ => exact (show 0 + 1 * k.val = k.val by omega)

/-- The last two slots. -/
theorem far_value (hx : Holds m x) (c : Dev nD) (o : Fin 8) (r : Fin 256) (k : Fin 8) :
    (gathered m ρ c ((rectOf o).emb (ix3 0 r k)) : EReal) = distinct (blockVals x (at8 c o) r) k := by
  rw [← slot_value ρ hx]
  refine congrArg (gathered m ρ c) (funext fun a => Fin.ext ?_)
  match a with
  | ⟨0, _⟩ => exact (show o.val + 1 * 0 = o.val by omega)
  | ⟨1, _⟩ => exact (show 0 + 1 * r.val = r.val by omega)
  | ⟨2, _⟩ => exact (show 0 + 1 * k.val = k.val by omega)

/-- The values of row `r` in the blocks of the six nearest slots of device `c`. -/
def nearVals (x : Whole.Idx → EReal) (c : Dev nD) (r : Fin 256) : Set EReal :=
  {a | ∃ s : Fin 6, a ∈ blockVals x (at8 c ⟨s, by omega⟩) r}

theorem nearVals_finite (x : Whole.Idx → EReal) (c : Dev nD) (r : Fin 256) : (nearVals x c r).Finite :=
  (rowVals_finite x r).subset fun _ ⟨_, h⟩ => block_sub x _ r h

/-- The first merge keeps the first eight distinct values of the six blocks. -/
theorem near_merge (hx : Holds m x) (c : Dev nD) (r : Fin 256) (j : Nat) (hj : j < 8) :
    distinct (nearSet (fun y => gathered m ρ c (rect6.emb y)) r) j = distinct (nearVals x c r) j := by
  refine distinct_merge (k := 8) (fun s : Fin 6 => blockVals x (at8 c ⟨s, by omega⟩) r) (nearVals_finite x c r)
    (fun _ => blockVals_finite x _ r) (fun s a ha => .inr ⟨s, ha⟩) (fun a ⟨s, ha⟩ => .inr ⟨s, ha⟩) ?_ ?_ j hj
  · rintro _ ⟨s, k, rfl⟩
    exact .inr ⟨s, k, near_value ρ hx c s r k⟩
  · exact fun s i hi => .inr ⟨s, ⟨i, hi⟩, near_value ρ hx c s r ⟨i, hi⟩⟩

/-- The three parts the second merge joins: the six nearest blocks, and the last two. -/
def parts (x : Whole.Idx → EReal) (c : Dev nD) (r : Fin 256) : Fin 3 → Set EReal :=
  ![nearVals x c r, blockVals x (at8 c 6) r, blockVals x (at8 c 7) r]

/-- Every device is the peer of `c` at some offset. -/
theorem peer_at (c d : Dev nD) : ∃ o : Fin 8, d = at8 c o := by revert c d; decide

/-- The kernel's result on every device, of the whole array: column `j` of row `r` is the row's `j`-th distinct value. -/
theorem outAt_apply (hx : Holds m x) (c : Dev nD) (i : S256x8.Idx) :
    (outAt m ρ c i : EReal) = distinct (rowVals x (i 0)) ((i 1 : Fin 8) : Nat) := by
  refine (merged_apply _ _ _ i).trans ?_
  generalize (i 0 : Fin 256) = r
  refine distinct_merge (k := 8) (parts x c r) (rowVals_finite x r) ?_ ?_ ?_ ?_ ?_ _ (i 1).isLt
  · intro o
    match o with
    | 0 => exact nearVals_finite x c r
    | 1 => exact blockVals_finite x _ r
    | 2 => exact blockVals_finite x _ r
  · intro o a ha
    match o with
    | 0 => obtain ⟨s, h⟩ := ha; exact .inr (block_sub x _ r h)
    | 1 => exact .inr (block_sub x _ r ha)
    | 2 => exact .inr (block_sub x _ r ha)
  · intro a ha
    obtain ⟨d, h⟩ := row_cover x r ha
    obtain ⟨o, rfl⟩ := peer_at c d
    refine .inr ?_
    by_cases h6 : o.val < 6
    · exact ⟨0, ⟨o.val, h6⟩, h⟩
    · rcases (show o = 6 ∨ o = 7 by omega) with rfl | rfl
      · exact ⟨1, h⟩
      · exact ⟨2, h⟩
  · intro a ha
    rcases joinedSet_cases _ _ _ r ha with ⟨j, e⟩ | ⟨k, e⟩ | ⟨k, e⟩
    · exact .inr ⟨0, j, e.trans (near_merge ρ hx c r j j.isLt)⟩
    · exact .inr ⟨1, k, e.trans (far_value ρ hx c 6 r k)⟩
    · exact .inr ⟨2, k, e.trans (far_value ρ hx c 7 r k)⟩
  · intro o k hk
    refine .inr ?_
    match o with
    | 0 => exact ⟨_, (joined_near _ _ _ r ⟨k, hk⟩).trans (near_merge ρ hx c r k hk)⟩
    | 1 => exact ⟨_, (joined_six _ _ _ r ⟨k, hk⟩).trans (far_value ρ hx c 6 r ⟨k, hk⟩)⟩
    | 2 => exact ⟨_, (joined_seven _ _ _ r ⟨k, hk⟩).trans (far_value ρ hx c 7 r ⟨k, hk⟩)⟩

end Cert.TopK

end
-- ==== Proof.Sorted.lean ====
/-
  The rows of an array in falling order, as the two sorts of the comparison's programs put them: one stable sort of
  the negated row, read through its permutation.
-/
module

public import proofs.«01_k».proof.Proof.Gathered
public import proofs.«01_k».proof.Proof.Gen.On_untied
public import proofs.«01_k».proof.Proof.Gen.ReferenceIdeal.Run
public import Idealize.ShloMosaic.Lib.SortFacts

@[expose] public section

noncomputable section

namespace Cert.TopK

open Idealize.ShloMosaic

/-! ## One row in falling order -/

/-- Which of two columns of row `r` the sort of the negated row puts first. -/
def before (x : Whole.Idx → EReal) (r : Fin 256) (k k' : Fin 8192) : Bool := decide (-(x (ix2 r k)) < -(x (ix2 r k')))

/-- The column whose value comes at place `k`. -/
def place (x : Whole.Idx → EReal) (r : Fin 256) (k : Fin 8192) : Fin 8192 := sortedFrom (before x r) k

/-- The row in falling order. -/
def falling (x : Whole.Idx → EReal) (r : Fin 256) (k : Fin 8192) : EReal := x (ix2 r (place x r k))

theorem falling_anti (x : Whole.Idx → EReal) (r : Fin 256) (a b : Fin 8192) (h : a ≤ b) : falling x r b ≤ falling x r a := by
  rcases h.eq_or_lt with rfl | h
  · exact le_rfl
  · have key := sortedFrom_noInversion (before x r) (before x r)
      (fun a b h => by simp only [before, decide_eq_true_eq, decide_eq_false_iff_not, not_lt] at h ⊢; exact h.le)
      (fun _ _ h => h)
      (fun a b c h h' => by simp only [before, decide_eq_false_iff_not, not_lt] at h h' ⊢; exact h'.trans h) a b h
    simp only [before, decide_eq_false_iff_not, not_lt, EReal.neg_le_neg_iff] at key
    exact key

/-- It holds the row's values, no others. -/
theorem falling_range (x : Whole.Idx → EReal) (r : Fin 256) : Set.range (falling x r) = rowVals x r := by
  ext a
  constructor
  · rintro ⟨k, rfl⟩
    exact ⟨place x r k, rfl⟩
  · rintro ⟨k, rfl⟩
    obtain ⟨k', e⟩ := sortedFrom_surjective (before x r) k
    exact ⟨k', congrArg (fun k => x (ix2 r k)) e⟩

/-! ## The comparators -/

theorem zero_or_self (z a : EReal) : (Scalar.select (Ideal.cmp .oeq a z) z a : EReal) = a := by
  refine (select_ofBool (a = z) _ _).trans ?_
  split
  · exact Eq.symm ‹_›
  · rfl

theorem no_nan (q a : EReal) : (Scalar.select (Ideal.cmp .une a a) q a : EReal) = a := by
  refine (select_ofBool (a ≠ a) _ _).trans (if_neg fun h => h rfl)

/-- What a comparator makes of a value before it compares. -/
theorem plain_self (q z a : EReal) : (Scalar.select (Ideal.cmp .une a a) q (Scalar.select (Ideal.cmp .oeq a z) z a) : EReal) = a := by
  rw [zero_or_self, no_nan]

/-- Both comparators put the lesser value first. -/
theorem comparator_mask (a b : EReal) :
    Cert.On_untied.comparator_f32_d1 (F := Ideal) a b = BitVec.ofBool (decide (a < b)) :=
  congrArg₂ (fun a b => Ideal.cmp .olt a b) (plain_self _ _ a) (plain_self _ _ b)

theorem comparator_reference (a b : EReal × BitVec 32) :
    Cert.ReferenceIdeal.comparator_f32_i32_d1 (F := Ideal) a b = BitVec.ofBool (decide (a.1 < b.1)) :=
  congrArg₂ (fun a b => Ideal.cmp .olt a b) (plain_self _ _ a.1) (plain_self _ _ b.1)

/-! ## The sorts -/

theorem along_row (r : Fin 256) (k k' : Fin 8192) : (ix2 r k : Whole.Idx).along 1 k' = ix2 r k' := by
  funext a
  match a with
  | ⟨0, _⟩ => rfl
  | ⟨1, _⟩ => rfl

theorem ofBool_beq (b : Bool) : (BitVec.ofBool b == 1#1) = b := by cases b <;> rfl

/-- The sort of the negated array, at a row and a place. -/
theorem sort_apply (x : Whole.Idx → EReal) (r : Fin 256) (k : Fin 8192) :
    (Host.sort Whole 1 (Cert.On_untied.comparator_f32_d1 (F := Ideal)) (Host.negf (F := Ideal) (φ := .f32) x) (ix2 r k) : EReal) = -falling x r k := by
  have e : (fun a b : Fin 8192 => Cert.On_untied.comparator_f32_d1 (F := Ideal)
      (-(x ((ix2 r k : Whole.Idx).along 1 a))) (-(x ((ix2 r k : Whole.Idx).along 1 b))) == 1#1) = before x r := by
    funext a b
    rw [comparator_mask, ofBool_beq, along_row, along_row]
    rfl
  refine (dif_pos (show 1 < Whole.rank by decide)).trans ?_
  show -(x ((ix2 r k : Whole.Idx).along 1 (sortedFrom (fun a b : Fin 8192 => Cert.On_untied.comparator_f32_d1 (F := Ideal)
    (-(x ((ix2 r k : Whole.Idx).along 1 a))) (-(x ((ix2 r k : Whole.Idx).along 1 b))) == 1#1) k))) = _
  rw [e]
  exact congrArg (fun i => -(x i)) (along_row r k _)

/-- The columns the sort carries along, at a row and a place. -/
theorem sort2_apply (x : Whole.Idx → EReal) (r : Fin 256) (k : Fin 8192) :
    (Host.sort2 Whole 1 (Cert.ReferenceIdeal.comparator_f32_i32_d1 (F := Ideal)) (Host.negf (F := Ideal) (φ := .f32) x) (iotaInDim Whole 32 1)).2 (ix2 r k)
      = BitVec.ofNat 32 (place x r k) := by
  have e : (fun a b : Fin 8192 => Cert.ReferenceIdeal.comparator_f32_i32_d1 (F := Ideal)
      (-(x ((ix2 r k : Whole.Idx).along 1 a)), iotaInDim Whole 32 1 ((ix2 r k : Whole.Idx).along 1 a))
      (-(x ((ix2 r k : Whole.Idx).along 1 b)), iotaInDim Whole 32 1 ((ix2 r k : Whole.Idx).along 1 b)) == 1#1) = before x r := by
    funext a b
    rw [comparator_reference, ofBool_beq]
    show decide (-(x ((ix2 r k : Whole.Idx).along 1 a)) < -(x ((ix2 r k : Whole.Idx).along 1 b))) = _
    rw [along_row, along_row]
    rfl
  unfold Host.sort2
  rw [dif_pos (show 1 < Whole.rank by decide)]
  show iotaInDim Whole 32 1 ((ix2 r k : Whole.Idx).along 1 (sortedFrom (fun a b : Fin 8192 => Cert.ReferenceIdeal.comparator_f32_i32_d1 (F := Ideal)
      (-(x ((ix2 r k : Whole.Idx).along 1 a)), iotaInDim Whole 32 1 ((ix2 r k : Whole.Idx).along 1 a))
      (-(x ((ix2 r k : Whole.Idx).along 1 b)), iotaInDim Whole 32 1 ((ix2 r k : Whole.Idx).along 1 b)) == 1#1) k)) = _
  rw [e]
  refine (congrArg (iotaInDim Whole 32 1) (along_row r k (place x r k))).trans ?_
  generalize place x r k = p
  rfl

/-! ## A conjunction over an axis -/

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

theorem fold_and {ι : Type} [DecidableEq ι] (f : ι → BitVec 1) (s : Finset ι) :
    s.fold IntOp.andi (1#1) f = 1#1 ↔ ∀ i ∈ s, f i = 1#1 := by
  induction s using Finset.induction_on with
  | empty => simp
  | insert a s ha ih => rw [Finset.fold_insert ha, and_one, ih, Finset.forall_mem_insert]

/-- A conjunction is true where everything it gathers is. -/
theorem reduce_and {s t u : Shape} {axes : List (Fin s.rank)} (x : s.Idx → BitVec 1) (h : s.ReducesTo axes t) (hu : 0 < u.numel) (j : t.Idx) :
    Host.reduce IntOp.andi x (constantI u 1 1#1) h hu j = 1#1 ↔ ∀ i, h.drop i = j → x i = 1#1 := by
  rw [Host.reduce_eq_fold]
  refine (fold_and x _).trans ?_
  simp only [Finset.mem_filter, Finset.mem_univ, true_and]

end Cert.TopK

end
-- ==== Proof.Reference.lean ====
/-
  What the reference computes at the extended reals: at row `r` and column `j`, the `j`-th value of the row in falling order.
-/
module

public import proofs.«01_k».proof.Proof.Sorted

@[expose] public section

noncomputable section

namespace Cert.TopK

open Idealize.ShloMosaic
open Cert.ReferenceIdeal (S256x8 S256x8x1 S_ S1 S1x1x1)
open Cert.ReferenceIdeal.Gen Cert.ReferenceIdeal

/-- The columns the reference gathers at: the first eight of each row's sort. -/
def columns (x : Whole.Idx → EReal) : IVec S256x8 32 :=
  extractStridedSlice S256x8 ![0, 0] ((Host.sort2 S256x8192 1 (comparator_f32_i32_d1 (F := Ideal)) (Host.negf (F := Ideal) (φ := .f32) x) (iotaInDim S256x8192 32 1)).2) slices_S256x8192_S256x8_0_0

/-- A negative column counts from the end; the columns as the gather takes them. -/
def starts (v : IVec S256x8 32) : IVec S256x8x1 32 :=
  shapeCast S256x8x1 (select (cmpi .slt v (broadcastInDim S256x8 ![] bcast_S_S256x8 (constantI S_ 32 0#32)))
    (addi v (broadcastInDim S256x8 ![] bcast_S_S256x8 (constantI S_ 32 8192#32))) v) shapeCasts_S256x8_S256x8x1

/-- Which columns lie in the array. -/
def inRange (v : IVec S256x8 32) : IVec S256x8x1 1 :=
  andi (cmpi .sge (starts v) (broadcastInDim S256x8x1 ![] bcast_S_S256x8x1 (constantI S_ 32 0#32)))
    (cmpi .sle (starts v) (broadcastInDim S256x8x1 ![0, 1, 2] bcast_S1x1x1_S256x8x1_0_1_2 (broadcastInDim S1x1x1 ![2] bcast_S1_S1x1x1_2 (constantI S1 32 8191#32))))

/-- The reference's result. -/
def refOut (x : Whole.Idx → EReal) (v : IVec S256x8 32) : FVec Ideal S256x8 .f32 :=
  select (Host.reduce IntOp.andi (inRange v) (constantI S_ 1 1#1) reducesTo_S256x8x1_S256x8_d2 h_S_)
    (Host.gather gather_S256x8192_S256x8x1_S256x8_n_1_0_0_1_2_11 (x : FVec Ideal S256x8192 .f32) (starts v))
    (broadcastInDim S256x8 ![] bcast_S_S256x8 (constant S_ .f32 0x7FC00000#32))

theorem columns_apply (x : Whole.Idx → EReal) (r : Fin 256) (j : Fin 8) :
    columns x (ix2 r j) = BitVec.ofNat 32 (place x r ⟨j, by omega⟩) := by
  refine (extractStridedSlice_apply _ _ _ _ (ix2 r (⟨j, by omega⟩ : Fin 8192)) ?_).trans (sort2_apply x r _)
  intro a
  match a with
  | ⟨0, _⟩ => exact (Nat.zero_add _).symm
  | ⟨1, _⟩ => exact (Nat.zero_add _).symm

theorem toInt_column (p : Fin 8192) : (BitVec.ofNat 32 p).toInt = p := by
  have := p.isLt
  rw [BitVec.toInt_eq_toNat_of_lt] <;> rw [BitVec.toNat_ofNat] <;> omega

theorem starts_apply (v : IVec S256x8 32) (r : Fin 256) (j : Fin 8) (p : Fin 8192) (h : v (ix2 r j) = BitVec.ofNat 32 p) :
    starts v (ix3 r j 0) = BitVec.ofNat 32 p := by
  refine (shapeCast_apply _ _ _ (ix2 r j) ?_).trans ?_
  · rw [rowMajor_val2 _ 8 rfl, rowMajor_val3 _ 8 1 rfl rfl]
    show (r : Nat) * 8 + (j : Nat) = (r : Nat) * 8 + (j : Nat) * 1 + 0
    omega
  · show Scalar.select (IntOp.cmpi .slt (v (ix2 r j)) 0#32) (IntOp.addi (v (ix2 r j)) 8192#32) (v (ix2 r j)) = _
    rw [h]
    have : IntOp.cmpi .slt (BitVec.ofNat 32 p) 0#32 = 0#1 := by
      show BitVec.ofBool ((BitVec.ofNat 32 p).slt 0#32) = 0#1
      rw [BitVec.slt, toInt_column, decide_eq_false (by simp)]
      rfl
    rw [this]
    rfl

theorem inRange_apply (v : IVec S256x8 32) (r : Fin 256) (j : Fin 8) (p : Fin 8192) (h : v (ix2 r j) = BitVec.ofNat 32 p) :
    inRange v (ix3 r j 0) = 1#1 := by
  have hp := p.isLt
  refine (and_one _ _).mpr ⟨?_, ?_⟩
  · show IntOp.cmpi .sge (starts v (ix3 r j 0)) 0#32 = 1#1
    rw [starts_apply v r j p h]
    show BitVec.ofBool ((0#32).sle (BitVec.ofNat 32 p)) = 1#1
    rw [BitVec.sle, toInt_column, decide_eq_true (by simp)]
    rfl
  · show IntOp.cmpi .sle (starts v (ix3 r j 0)) 8191#32 = 1#1
    rw [starts_apply v r j p h]
    show BitVec.ofBool ((BitVec.ofNat 32 p).sle 8191#32) = 1#1
    rw [BitVec.sle, toInt_column, decide_eq_true (show (p : Int) ≤ (8191#32).toInt by
      rw [show (8191#32).toInt = 8191 by decide]; omega)]
    rfl

/-- The gather along the columns of each row. -/
theorem gather_apply (x : Whole.Idx → EReal) (v : IVec S256x8x1 32) (r : Fin 256) (j : Fin 8) (p : Fin 8192)
    (h : v (ix3 r j 0) = BitVec.ofNat 32 p) :
    (Host.gather gather_S256x8192_S256x8x1_S256x8_n_1_0_0_1_2_11 (x : FVec Ideal S256x8192 .f32) v (ix2 r j) : EReal) = x (ix2 r p) := by
  refine congrArg x (funext fun a => Fin.ext ?_)
  match a with
  | ⟨0, _⟩ => exact (Nat.zero_add _).trans rfl
  | ⟨1, _⟩ =>
    have e : gather_S256x8192_S256x8x1_S256x8_n_1_0_0_1_2_11.siIdx (ix2 r j : S256x8.Idx) ⟨0, Nat.one_pos⟩ = ix3 r j 0 := by
      funext b
      match b with
      | ⟨0, _⟩ => rfl
      | ⟨1, _⟩ => rfl
      | ⟨2, _⟩ => rfl
    show min (v (gather_S256x8192_S256x8x1_S256x8_n_1_0_0_1_2_11.siIdx (ix2 r j : S256x8.Idx) ⟨0, Nat.one_pos⟩)).toInt.toNat 8191 + 0 + 0 = p.val
    rw [e, h, toInt_column, Int.toNat_natCast]
    have := p.isLt
    omega

theorem refOut_apply (x : Whole.Idx → EReal) (v : IVec S256x8 32) (r : Fin 256) (j : Fin 8) (p : Fin 8192)
    (h : v (ix2 r j) = BitVec.ofNat 32 p) : (refOut x v (ix2 r j) : EReal) = x (ix2 r p) := by
  have hm : Host.reduce IntOp.andi (inRange v) (constantI S_ 1 1#1) reducesTo_S256x8x1_S256x8_d2 h_S_ (ix2 r j) = 1#1 := by
    refine (reduce_and _ _ _ _).mpr fun i hi => ?_
    have h0 : i 0 = r := Fin.ext ((reducesTo_S256x8x1_S256x8_d2.drop_apply_val_of_eq i 0 0).symm.trans (congrArg Fin.val (congrFun hi 0)))
    have h1 : i 1 = j := Fin.ext ((reducesTo_S256x8x1_S256x8_d2.drop_apply_val_of_eq i 1 1).symm.trans (congrArg Fin.val (congrFun hi 1)))
    have e : i = ix3 r j 0 := by
      funext a
      match a with
      | ⟨0, _⟩ => exact h0
      | ⟨1, _⟩ => exact h1
      | ⟨2, _⟩ => exact Fin.ext (Nat.lt_one_iff.mp (i 2).isLt)
    rw [e]
    exact inRange_apply v r j p h
  show Scalar.select _ _ _ = _
  rw [hm]
  exact gather_apply x (starts v) r j p (starts_apply v r j p h)

/-- The reference's result, of the whole array. -/
theorem refOut_columns (x : Whole.Idx → EReal) (r : Fin 256) (j : Fin 8) :
    (refOut x (columns x) (ix2 r j) : EReal) = falling x r ⟨j, by omega⟩ :=
  refOut_apply x (columns x) r j _ (columns_apply x r j)

end Cert.TopK

end
-- ==== Proof.Untied.lean ====
/-
  The mask of the comparison: where it is set, the row's values fall strictly up to that column, or the value there is `⊥`.
-/
module

public import proofs.«01_k».proof.Proof.Sorted

@[expose] public section

noncomputable section

namespace Cert.TopK

open Idealize.ShloMosaic
open Cert.On_untied Cert.On_untied.Gen

/-- The first eight values of each row, as the mask computes them. -/
def firstEight (x : Whole.Idx → EReal) : FVec Ideal S256x8 .f32 :=
  Host.negf (extractStridedSlice S256x8 ![0, 0] (Host.sort S256x8192 1 (comparator_f32_d1 (F := Ideal)) (Host.negf (F := Ideal) (φ := .f32) x)) slices_S256x8192_S256x8_0_0)

theorem firstEight_apply (x : Whole.Idx → EReal) (r : Fin 256) (j : Fin 8) : (firstEight x (ix2 r j) : EReal) = falling x r ⟨j, by omega⟩ := by
  have e : (extractStridedSlice S256x8 ![0, 0] (Host.sort S256x8192 1 (comparator_f32_d1 (F := Ideal)) (Host.negf (F := Ideal) (φ := .f32) x)) slices_S256x8192_S256x8_0_0 (ix2 r j) : EReal)
      = -falling x r ⟨j, by omega⟩ := by
    refine (extractStridedSlice_apply _ _ _ _ (ix2 r (⟨j, by omega⟩ : Fin 8192)) ?_).trans (sort_apply x r _)
    intro a
    match a with
    | ⟨0, _⟩ => exact (Nat.zero_add _).symm
    | ⟨1, _⟩ => exact (Nat.zero_add _).symm
  show -(extractStridedSlice S256x8 ![0, 0] (Host.sort S256x8192 1 (comparator_f32_d1 (F := Ideal)) (Host.negf (F := Ideal) (φ := .f32) x)) slices_S256x8192_S256x8_0_0 (ix2 r j) : EReal) = _
  rw [e, neg_neg]

/-- Whether each value is above its successor. -/
def above (s : FVec Ideal S256x8 .f32) : IVec S256x1x7 1 :=
  cmpf .ogt (broadcastInDim S256x1x7 ![0, 2] bcast_S256x7_S256x1x7_0_2 (extractStridedSlice S256x7 ![0, 0] s slices_S256x8_S256x7_0_0))
    (broadcastInDim S256x1x7 ![0, 2] bcast_S256x7_S256x1x7_0_2 (extractStridedSlice S256x7 ![0, 1] s slices_S256x8_S256x7_0_1))

theorem above_apply (s : FVec Ideal S256x8 .f32) (r : Fin 256) (k : Fin 7) (h : above s (ix3 r 0 k) = 1#1) :
    (s (ix2 r (⟨k + 1, by omega⟩ : Fin 8)) : EReal) < s (ix2 r (⟨k, by omega⟩ : Fin 8)) := by
  have e0 : broadcastInDim S256x1x7 ![0, 2] bcast_S256x7_S256x1x7_0_2 (extractStridedSlice S256x7 ![0, 0] s slices_S256x8_S256x7_0_0) (ix3 r 0 k)
      = s (ix2 r (⟨k, by omega⟩ : Fin 8)) := by
    refine (broadcastInDim_apply _ _ _ _ (ix2 r k) ?_).trans (extractStridedSlice_apply _ _ _ _ _ ?_)
    · intro a; match a with
      | ⟨0, _⟩ => rfl
      | ⟨1, _⟩ => rfl
    · intro a; match a with
      | ⟨0, _⟩ => exact (Nat.zero_add _).symm
      | ⟨1, _⟩ => exact (Nat.zero_add _).symm
  have e1 : broadcastInDim S256x1x7 ![0, 2] bcast_S256x7_S256x1x7_0_2 (extractStridedSlice S256x7 ![0, 1] s slices_S256x8_S256x7_0_1) (ix3 r 0 k)
      = s (ix2 r (⟨k + 1, by omega⟩ : Fin 8)) := by
    refine (broadcastInDim_apply _ _ _ _ (ix2 r k) ?_).trans (extractStridedSlice_apply _ _ _ _ _ ?_)
    · intro a; match a with
      | ⟨0, _⟩ => rfl
      | ⟨1, _⟩ => rfl
    · intro a; match a with
      | ⟨0, _⟩ => exact (Nat.zero_add _).symm
      | ⟨1, _⟩ => exact Nat.add_comm _ _
  have h' : Ideal.cmp .ogt (broadcastInDim S256x1x7 ![0, 2] bcast_S256x7_S256x1x7_0_2 (extractStridedSlice S256x7 ![0, 0] s slices_S256x8_S256x7_0_0) (ix3 r 0 k))
    (broadcastInDim S256x1x7 ![0, 2] bcast_S256x7_S256x1x7_0_2 (extractStridedSlice S256x7 ![0, 1] s slices_S256x8_S256x7_0_1) (ix3 r 0 k)) = 1#1 := h
  rw [e0, e1] at h'
  by_contra hc
  have : Ideal.cmp .ogt (s (ix2 r (⟨k, by omega⟩ : Fin 8))) (s (ix2 r (⟨k + 1, by omega⟩ : Fin 8))) = 0#1 :=
    congrArg BitVec.ofBool (decide_eq_false hc)
  rw [this] at h'
  exact absurd h' (by decide)

/-- Which comparisons a column does not ask for: those at or after it. -/
def later : IVec S1x8x7 1 :=
  cmpi .sge (broadcastInDim S1x8x7 ![0, 1, 2] bcast_S1x1x7_S1x8x7_0_1_2 (broadcastInDim S1x1x7 ![2] bcast_S7_S1x1x7_2 (iotaInDim S7 32 0)))
    (broadcastInDim S1x8x7 ![0, 1, 2] bcast_S1x8x1_S1x8x7_0_1_2 (broadcastInDim S1x8x1 ![1] bcast_S8_S1x8x1_1 (iotaInDim S8 32 0)))

theorem later_apply (j : Fin 8) (k : Fin 7) (h : k.val < j.val) : later (ix3 0 j k) ≠ 1#1 := by
  have e0 : broadcastInDim S1x8x7 ![0, 1, 2] bcast_S1x1x7_S1x8x7_0_1_2 (broadcastInDim S1x1x7 ![2] bcast_S7_S1x1x7_2 (iotaInDim S7 32 0)) (ix3 0 j k)
      = BitVec.ofNat 32 k := by
    refine (broadcastInDim_apply _ _ _ _ (ix3 0 0 k) ?_).trans (broadcastInDim_apply _ _ _ _ (ix1 k) ?_)
    · intro a; match a with
      | ⟨0, _⟩ => rfl
      | ⟨1, _⟩ => rfl
      | ⟨2, _⟩ => rfl
    · intro a; match a with
      | ⟨0, _⟩ => rfl
  have e1 : broadcastInDim S1x8x7 ![0, 1, 2] bcast_S1x8x1_S1x8x7_0_1_2 (broadcastInDim S1x8x1 ![1] bcast_S8_S1x8x1_1 (iotaInDim S8 32 0)) (ix3 0 j k)
      = BitVec.ofNat 32 j := by
    refine (broadcastInDim_apply _ _ _ _ (ix3 0 j 0) ?_).trans (broadcastInDim_apply _ _ _ _ (ix1 j) ?_)
    · intro a; match a with
      | ⟨0, _⟩ => rfl
      | ⟨1, _⟩ => rfl
      | ⟨2, _⟩ => rfl
    · intro a; match a with
      | ⟨0, _⟩ => rfl
  show IntOp.cmpi .sge (broadcastInDim S1x8x7 ![0, 1, 2] bcast_S1x1x7_S1x8x7_0_1_2 (broadcastInDim S1x1x7 ![2] bcast_S7_S1x1x7_2 (iotaInDim S7 32 0)) (ix3 0 j k))
    (broadcastInDim S1x8x7 ![0, 1, 2] bcast_S1x8x1_S1x8x7_0_1_2 (broadcastInDim S1x8x1 ![1] bcast_S8_S1x8x1_1 (iotaInDim S8 32 0)) (ix3 0 j k)) ≠ 1#1
  rw [e0, e1]
  revert h
  revert j k
  decide

/-- Whether the values fall strictly up to each column. -/
def strictly (x : Whole.Idx → EReal) : IVec S256x8 1 :=
  Host.reduce IntOp.andi (ori (broadcastInDim S256x8x7 ![0, 1, 2] bcast_S256x1x7_S256x8x7_0_1_2 (above (firstEight x)))
    (broadcastInDim S256x8x7 ![0, 1, 2] bcast_S1x8x7_S256x8x7_0_1_2 later)) (constantI S_ 1 1#1) reducesTo_S256x8x7_S256x8_d2 h_S_

/-- The mask, by its parts. -/
theorem fn_eq (x : Whole.Idx → EReal) : Cert.On_untied.fn (F := Ideal) x
    = ori (strictly x) (cmpf .oeq (firstEight x) (broadcastInDim S256x8 ![] bcast_S_S256x8 (constant S_ .f32 0xFF800000#32))) := rfl

/-- Where this is set, each value of the row before that column is above the next. -/
theorem strict_of_strictly (x : Whole.Idx → EReal) (r : Fin 256) (j : Fin 8) (h : strictly x (ix2 r j) = 1#1)
    (k : Nat) (hk : k < j.val) : falling x r ⟨k + 1, by omega⟩ < falling x r ⟨k, by omega⟩ := by
  have hd : reducesTo_S256x8x7_S256x8_d2.drop (ix3 r j (⟨k, by omega⟩ : Fin 7)) = ix2 r j := by
    funext a
    match a with
    | ⟨0, _⟩ => exact Fin.ext (reducesTo_S256x8x7_S256x8_d2.drop_apply_val_of_eq _ 0 0)
    | ⟨1, _⟩ => exact Fin.ext (reducesTo_S256x8x7_S256x8_d2.drop_apply_val_of_eq _ 1 1)
  have key := (reduce_and _ _ _ _).mp h _ hd
  have e0 : broadcastInDim S256x8x7 ![0, 1, 2] bcast_S256x1x7_S256x8x7_0_1_2 (above (firstEight x)) (ix3 r j (⟨k, by omega⟩ : Fin 7))
      = above (firstEight x) (ix3 r 0 (⟨k, by omega⟩ : Fin 7)) := by
    refine broadcastInDim_apply _ _ _ _ _ ?_
    intro a; match a with
    | ⟨0, _⟩ => rfl
    | ⟨1, _⟩ => rfl
    | ⟨2, _⟩ => rfl
  have e1 : broadcastInDim S256x8x7 ![0, 1, 2] bcast_S1x8x7_S256x8x7_0_1_2 later (ix3 r j (⟨k, by omega⟩ : Fin 7))
      = later (ix3 0 j (⟨k, by omega⟩ : Fin 7)) := by
    refine broadcastInDim_apply _ _ _ _ _ ?_
    intro a; match a with
    | ⟨0, _⟩ => rfl
    | ⟨1, _⟩ => rfl
    | ⟨2, _⟩ => rfl
  rcases (or_one _ _).mp key with h | h
  · have := above_apply (firstEight x) r ⟨k, by omega⟩ (e0.symm.trans h)
    rwa [firstEight_apply, firstEight_apply] at this
  · exact absurd (e1.symm.trans h) (later_apply j ⟨k, by omega⟩ hk)

/-- Where the mask is set, that holds or the value at that column is `⊥`. -/
theorem strict_of_untied (x : Whole.Idx → EReal) (r : Fin 256) (j : Fin 8) (h : Cert.On_untied.fn (F := Ideal) x (ix2 r j) = 1#1) :
    (∀ k (hk : k < j.val), falling x r ⟨k + 1, by omega⟩ < falling x r ⟨k, by omega⟩) ∨ falling x r ⟨j, by omega⟩ = ⊥ := by
  rw [fn_eq] at h
  rcases (or_one _ _).mp h with h | h
  · exact .inl (strict_of_strictly x r j h)
  · right
    have eb : (Ideal.ofBits .f32 0xFF800000#32 : EReal) = ⊥ := by simp [Ideal.ofBits, Ideal.ieee]
    have h' : Ideal.cmp .oeq (firstEight x (ix2 r j)) (Ideal.ofBits .f32 0xFF800000#32) = 1#1 := h
    rw [firstEight_apply, eb] at h'
    by_contra hc
    have : Ideal.cmp .oeq (falling x r ⟨j, by omega⟩) (⊥ : EReal) = 0#1 := congrArg BitVec.ofBool (decide_eq_false hc)
    rw [this] at h'
    exact absurd h' (by decide)

end Cert.TopK

end
-- ==== Proof.Equation.lean ====
/-
  The value claim: where the mask is set, the kernel's result on every device is the reference's.
-/
module

public import proofs.«01_k».proof.Defs
public import proofs.«01_k».proof.Proof.Launch
public import proofs.«01_k».proof.Proof.Reference
public import proofs.«01_k».proof.Proof.Untied

@[expose] public section

noncomputable section

namespace Cert.TopK

open Idealize.ShloMosaic Idealize.ShloMosaic.TcCoe Idealize.SL.Sem

/-- At an element where the mask is set, the row's `j`-th distinct value is its `j`-th value in falling order. -/
theorem distinct_of_untied (x : Whole.Idx → EReal) (r : Fin 256) (j : Fin 8) (h : Cert.On_untied.fn (F := Ideal) x (ix2 r j) = 1#1) :
    distinct (rowVals x r) j = falling x r ⟨j, by omega⟩ := by
  rw [← falling_range]
  rcases strict_of_untied x r j h with h | h
  · exact distinct_range_of_strict (falling x r) (falling_anti x r) j (by omega) h
  · exact le_antisymm (distinct_range_le (falling x r) (falling_anti x r) j (by omega)) (h ▸ bot_le)

/-- The kernel against the reference. -/
theorem kernel_eq_reference : Cert.algebraic_KernelIdeal_ReferenceIdeal_on_untied := by
  intro m g m' g' _ hx
  let x : Whole.Idx → EReal := m' (((0 : Dev Cert.ReferenceIdeal.nD).tc : Thread Cert.ReferenceIdeal.nD Cert.ReferenceIdeal.τ).loc Cert.ReferenceIdeal.main_arg0)
  refine ⟨refOut x (columns x), ?_, ?_⟩
  · refine (θ_run Cert.KernelIdeal.defs _ _).mono (fun r h c => ⟨fun i hi => ?_, (h.1 c).2⟩) (run_main (F := Ideal) m g)
    refine (congrFun (h.1 c).1 i).trans ?_
    refine (outAt_apply (m := m) (x := x) g hx c i).trans ?_
    have hi' : Cert.On_untied.fn (F := Ideal) x (ix2 (n0 := 256) (n1 := 8) (i 0) (i 1)) = 1#1 := by
      rw [← hi]
      exact congrArg (Cert.On_untied.fn (F := Ideal) x) (ix2_eta (n0 := 256) (n1 := 8) i)
    refine (distinct_of_untied x (i 0) (i 1) hi').trans ((refOut_columns x (i 0) (i 1)).symm.trans ?_)
    exact congrArg (refOut x (columns x)) (ix2_eta (n0 := 256) (n1 := 8) i)
  · exact (θ_run Cert.ReferenceIdeal.defs _ _).mono (fun r h => ⟨fun i _ => congrFun (h 0).1 i, (h 0).2⟩)
      (Cert.ReferenceIdeal.Value.run (F := Ideal) m' g')

end Cert.TopK

end
-- ==== Proof.Once.lean ====
/-
  The second comparison: the reference that keeps one of each row's equal values, and what it computes.
-/
module

public import proofs.«01_k».proof.Proof.Sorted
public import proofs.«01_k».proof.Proof.Gen.DistinctIdeal.Run

@[expose] public section

noncomputable section

namespace Cert.TopK

open Idealize.ShloMosaic
open Cert.DistinctIdeal Cert.DistinctIdeal.Gen

/-- The array, each row in falling order. -/
def rowsDown (x : Whole.Idx → EReal) : FVec Ideal S256x8192 .f32 :=
  Host.negf (Host.sort S256x8192 1 (comparator_f32_d1 (F := Ideal)) (Host.negf (F := Ideal) (φ := .f32) x))

theorem rowsDown_apply (x : Whole.Idx → EReal) (r : Fin 256) (k : Fin 8192) : (rowsDown x (ix2 r k) : EReal) = falling x r k :=
  (congrArg (fun a : EReal => -a) (sort_apply x r k)).trans (neg_neg _)

/-- The rows in falling order, each value equal to the one before it replaced by `⊥`. -/
def once (s : FVec Ideal S256x8192 .f32) : FVec Ideal S256x8192 .f32 :=
  concatenate S256x8192 1 [⟨S256x1, extractStridedSlice S256x1 ![0, 0] s slices_S256x8192_S256x1_0_0⟩,
    ⟨S256x8191, select (cmpf .oeq (extractStridedSlice S256x8191 ![0, 1] s slices_S256x8192_S256x8191_0_1)
        (extractStridedSlice S256x8191 ![0, 0] s slices_S256x8192_S256x8191_0_0))
      (broadcastInDim S256x8191 ![] bcast_S_S256x8191 (id (constant S_ .f32 0xFF800000#32)))
      (extractStridedSlice S256x8191 ![0, 1] s slices_S256x8192_S256x8191_0_1)⟩] concatenates_S256x1_S256x8191_S256x8192_d1

theorem once_zero (s : FVec Ideal S256x8192 .f32) (r : Fin 256) : once s (ix2 r 0) = s (ix2 r 0) := by
  refine (concatenate_pair_apply_left (t := S256x8192) (s₁ := S256x1) (s₂ := S256x8191) 1 _ _ concatenates_S256x1_S256x8191_S256x8192_d1
    (ix2 r 0) rfl (ix2 r 0) ?_).trans (extractStridedSlice_apply _ _ _ _ _ ?_)
  · intro b; match b with
    | ⟨0, _⟩ => rfl
    | ⟨1, _⟩ => rfl
  · intro a; match a with
    | ⟨0, _⟩ => exact (Nat.zero_add _).symm
    | ⟨1, _⟩ => rfl

theorem once_succ (s : FVec Ideal S256x8192 .f32) (r : Fin 256) (k : Fin 8191) :
    (once s (ix2 r (⟨k + 1, by omega⟩ : Fin 8192)) : EReal)
      = if (s (ix2 r (⟨k + 1, by omega⟩ : Fin 8192)) : EReal) = s (ix2 r (⟨k, by omega⟩ : Fin 8192)) then ⊥ else s (ix2 r (⟨k + 1, by omega⟩ : Fin 8192)) := by
  have e1 : extractStridedSlice S256x8191 ![0, 1] s slices_S256x8192_S256x8191_0_1 (ix2 r k) = s (ix2 r (⟨k + 1, by omega⟩ : Fin 8192)) := by
    refine extractStridedSlice_apply _ _ _ _ _ ?_
    intro a; match a with
    | ⟨0, _⟩ => exact (Nat.zero_add _).symm
    | ⟨1, _⟩ => exact Nat.add_comm _ _
  have e0 : extractStridedSlice S256x8191 ![0, 0] s slices_S256x8192_S256x8191_0_0 (ix2 r k) = s (ix2 r (⟨k, by omega⟩ : Fin 8192)) := by
    refine extractStridedSlice_apply _ _ _ _ _ ?_
    intro a; match a with
    | ⟨0, _⟩ => exact (Nat.zero_add _).symm
    | ⟨1, _⟩ => exact (Nat.zero_add _).symm
  have eb : (Ideal.ofBits .f32 0xFF800000#32 : EReal) = ⊥ := by simp [Ideal.ofBits, Ideal.ieee]
  refine (concatenate_pair_apply_right (t := S256x8192) (s₁ := S256x1) (s₂ := S256x8191) 1 _ _ concatenates_S256x1_S256x8191_S256x8192_d1
    (ix2 r (⟨k + 1, by omega⟩ : Fin 8192)) rfl rfl (ix2 r k) ?_ rfl).trans ?_
  · intro b hb; match b with
    | ⟨0, _⟩ => rfl
    | ⟨1, _⟩ => exact absurd rfl hb
  · show Scalar.select (Ideal.cmp .oeq (extractStridedSlice S256x8191 ![0, 1] s slices_S256x8192_S256x8191_0_1 (ix2 r k))
      (extractStridedSlice S256x8191 ![0, 0] s slices_S256x8192_S256x8191_0_0 (ix2 r k))) (Ideal.ofBits .f32 0xFF800000#32)
      (extractStridedSlice S256x8191 ![0, 1] s slices_S256x8192_S256x8191_0_1 (ix2 r k)) = _
    rw [e0, e1, eb]
    exact select_ofBool _ _ _

/-! ## The row with one of each value -/

/-- Each entry is `⊥` or the row's value at that place, and then the place is the first or its value below the one before. -/
theorem once_cases (x : Whole.Idx → EReal) (r : Fin 256) (k : Fin 8192) (h : (once (rowsDown x) (ix2 r k) : EReal) ≠ ⊥) :
    (once (rowsDown x) (ix2 r k) : EReal) = falling x r k ∧ ∀ i < k, falling x r k < falling x r i := by
  obtain ⟨_ | k, hk⟩ := k
  · exact ⟨(once_zero _ r).trans (rowsDown_apply x r _), fun i hi => absurd hi (Nat.not_lt_zero _)⟩
  · have e := once_succ (rowsDown x) r ⟨k, by omega⟩
    rw [rowsDown_apply, rowsDown_apply] at e
    rw [e] at h ⊢
    split at h
    · exact absurd rfl h
    · rename_i hne
      refine ⟨if_neg hne, fun i hi => ?_⟩
      have h1 : falling x r ⟨k + 1, hk⟩ < falling x r ⟨k, by omega⟩ :=
        lt_of_le_of_ne (falling_anti x r _ _ (Nat.le_succ k)) hne
      exact h1.trans_le (falling_anti x r _ _ (Nat.lt_succ_iff.mp hi))

/-- The same values, but for `⊥`. -/
theorem once_sub (x : Whole.Idx → EReal) (r : Fin 256) {a : EReal} (ha : a ∈ rowVals (once (rowsDown x)) r) : a = ⊥ ∨ a ∈ rowVals x r := by
  obtain ⟨k, rfl⟩ := ha
  by_cases h : (once (rowsDown x) (ix2 r k) : EReal) = ⊥
  · exact .inl h
  · exact .inr ⟨place x r k, ((once_cases x r k h).1).symm⟩

theorem falling_once (x : Whole.Idx → EReal) (r : Fin 256) : ∀ (k : Nat) (hk : k < 8192), falling x r ⟨k, hk⟩ ∈ rowVals (once (rowsDown x)) r
  | 0, _ => ⟨0, (once_zero _ r).trans (rowsDown_apply x r _)⟩
  | k + 1, hk => by
    have e := once_succ (rowsDown x) r ⟨k, by omega⟩
    rw [rowsDown_apply, rowsDown_apply] at e
    by_cases h : falling x r ⟨k + 1, hk⟩ = falling x r ⟨k, by omega⟩
    · rw [h]; exact falling_once x r k _
    · exact ⟨_, e.trans (if_neg h)⟩

theorem sub_once (x : Whole.Idx → EReal) (r : Fin 256) {a : EReal} (ha : a ∈ rowVals x r) : a ∈ rowVals (once (rowsDown x)) r := by
  rw [← falling_range] at ha
  obtain ⟨k, rfl⟩ := ha
  exact falling_once x r k k.isLt

/-- So the same distinct values. -/
theorem distinct_once (x : Whole.Idx → EReal) (r : Fin 256) (j : Nat) : distinct (rowVals (once (rowsDown x)) r) j = distinct (rowVals x r) j :=
  le_antisymm (distinct_mono (fun _ h => once_sub x r h) j) (distinct_mono (fun _ h => .inr (sub_once x r h)) j)

/-- Two of its entries are equal only if they are `⊥`. -/
theorem once_injective (x : Whole.Idx → EReal) (r : Fin 256) (k k' : Fin 8192) (h : (once (rowsDown x) (ix2 r k) : EReal) ≠ ⊥)
    (e : (once (rowsDown x) (ix2 r k) : EReal) = once (rowsDown x) (ix2 r k')) : k = k' := by
  have h' : (once (rowsDown x) (ix2 r k') : EReal) ≠ ⊥ := e ▸ h
  rw [(once_cases x r k h).1, (once_cases x r k' h').1] at e
  rcases lt_trichotomy k k' with hlt | heq | hgt
  · exact absurd e ((once_cases x r k' h').2 k hlt).ne'
  · exact heq
  · exact absurd e ((once_cases x r k h).2 k' hgt).ne

/-- In falling order it is the row's distinct values. -/
theorem falling_eq_distinct (x : Whole.Idx → EReal) (r : Fin 256) (j : Fin 8192) :
    falling (once (rowsDown x)) r j = distinct (rowVals x r) j := by
  rw [← distinct_once, ← falling_range]
  refine (distinct_range_of_falling _ (falling_anti _ r) j j.isLt fun i hi => ?_).symm
  by_cases hb : falling (once (rowsDown x)) r ⟨i + 1, by omega⟩ = ⊥
  · exact .inr hb
  · refine .inl (lt_of_le_of_ne (falling_anti _ r _ _ (Nat.le_succ i)) fun e => ?_)
    have := sortedFrom_injective _ (once_injective x r _ _ hb e)
    exact absurd (congrArg Fin.val this) (Nat.succ_ne_self i)

/-! ## The reference's result -/

/-- The second reference's result. -/
def distinctOut (x : Whole.Idx → EReal) : FVec Ideal S256x8 .f32 :=
  Host.negf (extractStridedSlice S256x8 ![0, 0] (Host.sort S256x8192 1 (comparator_f32_d1 (F := Ideal)) (Host.negf (once (rowsDown x)))) slices_S256x8192_S256x8_0_0)

theorem distinctOut_apply (x : Whole.Idx → EReal) (r : Fin 256) (j : Fin 8) :
    (distinctOut x (ix2 r j) : EReal) = distinct (rowVals x r) j := by
  refine (congrArg (fun a : EReal => -a) ((extractStridedSlice_apply _ _ _ _ (ix2 r (⟨j, by omega⟩ : Fin 8192)) ?_).trans
    (sort_apply (once (rowsDown x)) r ⟨j, by omega⟩))).trans ?_
  · intro a; match a with
    | ⟨0, _⟩ => exact (Nat.zero_add _).symm
    | ⟨1, _⟩ => exact (Nat.zero_add _).symm
  · exact (neg_neg _).trans (falling_eq_distinct x r ⟨j, by omega⟩)

end Cert.TopK

end
-- ==== Proof.Everywhere.lean ====
/-
  The second value claim: at every element, the kernel's result on every device is the row's distinct values.
-/
module

public import proofs.«01_k».proof.Defs
public import proofs.«01_k».proof.Proof.Launch
public import proofs.«01_k».proof.Proof.Gathered
public import proofs.«01_k».proof.Proof.Once

@[expose] public section

noncomputable section

namespace Cert.TopK

open Idealize.ShloMosaic Idealize.ShloMosaic.TcCoe Idealize.SL.Sem

/-- The kernel against the reference that keeps one of each row's equal values. -/
theorem kernel_eq_distinct : Cert.algebraic_KernelIdeal_DistinctIdeal := by
  intro m g m' g' _ hx
  let x : Whole.Idx → EReal := m' (((0 : Dev Cert.DistinctIdeal.nD).tc : Thread Cert.DistinctIdeal.nD Cert.DistinctIdeal.τ).loc Cert.DistinctIdeal.main_arg0)
  refine ⟨distinctOut x, ?_, ?_⟩
  · refine (θ_run Cert.KernelIdeal.defs _ _).mono (fun r h c => ⟨funext fun i => ?_, (h.1 c).2⟩) (run_main (F := Ideal) m g)
    refine (congrFun (h.1 c).1 i).trans ?_
    refine (outAt_apply (m := m) (x := x) g hx c i).trans ?_
    refine (distinctOut_apply x (i 0) (i 1)).symm.trans ?_
    exact congrArg (distinctOut x) (ix2_eta (n0 := 256) (n1 := 8) i)
  · exact (θ_run Cert.DistinctIdeal.defs _ _).mono (fun r h => h 0) (Cert.DistinctIdeal.Value.run (F := Ideal) m' g')

/-- This reference runs too, and declares no semaphore. -/
theorem frame_distinct : Cert.quiescent_DistinctIdeal := fun m ρ _ =>
  (θ_run Cert.DistinctIdeal.defs _ _).mono (fun r h => ⟨fun c => (h c).2, sem_eq_zero_of_no_sems (by decide) r.2⟩)
    (Cert.DistinctIdeal.Value.run (F := Ideal) m ρ)

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Gen.On_untied
public import proofs.«01_k».proof.Proof.Gen.DistinctIdeal.Run
public import proofs.«01_k».proof.Proof.Frames
public import proofs.«01_k».proof.Proof.Equation
public import proofs.«01_k».proof.Proof.Everywhere

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.DistinctIdeal.Gen.facts, Cert.On_untied.Gen.facts, Cert.TopK.frame_kernel, Cert.TopK.frame_ideal, Cert.TopK.frame_reference, Cert.TopK.frame_distinct, trivial,
  Cert.TopK.kernel_eq_reference, Cert.TopK.kernel_eq_distinct⟩

end Cert.Proof

end
